-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S1x4096x512 : Shape := ⟨3, ![1, 4096, 512]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S1x4096x512 .f32) (main_arg1 : IVec S4096 32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 64#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S1x4096x512 : Shape := ⟨3, ![1, 4096, 512]⟩
abbrev S4096 : Shape := ⟨1, ![4096]⟩
abbrev S4096x512 : Shape := ⟨2, ![4096, 512]⟩
abbrev S1x4096 : Shape := ⟨2, ![1, 4096]⟩
abbrev S4096x1 : Shape := ⟨2, ![4096, 1]⟩
abbrev S64x4096 : Shape := ⟨2, ![64, 4096]⟩
abbrev S64 : Shape := ⟨1, ![64]⟩
abbrev S64x1 : Shape := ⟨2, ![64, 1]⟩
abbrev S64x512 : Shape := ⟨2, ![64, 512]⟩
abbrev S4096x64 : Shape := ⟨2, ![4096, 64]⟩
abbrev S1x4096x1 : Shape := ⟨3, ![1, 4096, 1]⟩
abbrev S1 : Shape := ⟨1, ![1]⟩
abbrev S1x1x1 : Shape := ⟨3, ![1, 1, 1]⟩
abbrev S512x1 : Shape := ⟨2, ![512, 1]⟩
abbrev S512x4096 : Shape := ⟨2, ![512, 4096]⟩
abbrev S512 : Shape := ⟨1, ![512]⟩

abbrev nBuf : Space → Nat
  | .hbm => 14
  | .vmem => 15
  | .smem => 0
  | _ => 0

abbrev bufTy : (tb : Table) → Fin (tcTables nBuf tb) → BufTy
  | .hbm, ⟨0, _⟩ => ⟨S1x4096x512, .f32⟩
  | .hbm, ⟨1, _⟩ => ⟨S4096, .i32⟩
  | .hbm, ⟨2, _⟩ => ⟨S4096x512, .f32⟩
  | .hbm, ⟨3, _⟩ => ⟨S1x4096, .i32⟩
  | .hbm, ⟨4, _⟩ => ⟨S4096x1, .i32⟩
  | .hbm, ⟨5, _⟩ => ⟨S4096x1, .f32⟩
  | .hbm, ⟨6, _⟩ => ⟨S4096x1, .f32⟩
  | .hbm, ⟨7, _⟩ => ⟨S1x4096, .f32⟩
  | .hbm, ⟨8, _⟩ => ⟨S1x4096, .f32⟩
  | .hbm, ⟨9, _⟩ => ⟨S4096x1, .f32⟩
  | .hbm, ⟨10, _⟩ => ⟨S4096x1, .i32⟩
  | .hbm, ⟨11, _⟩ => ⟨S1x4096x1, .f32⟩
  | .hbm, ⟨12, _⟩ => ⟨S1x4096x1, .i32⟩
  | .hbm, ⟨13, _⟩ => ⟨S1x4096x1, .f32⟩
  | .local _ .vmem, ⟨0, _⟩ => ⟨S4096x512, .f32⟩
  | .local _ .vmem, ⟨1, _⟩ => ⟨S1x4096, .i32⟩
  | .local _ .vmem, ⟨2, _⟩ => ⟨S4096x1, .i32⟩
  | .local _ .vmem, ⟨3, _⟩ => ⟨S4096x1, .f32⟩
  | .local _ .vmem, ⟨4, _⟩ => ⟨S4096x1, .f32⟩
  | .local _ .vmem, ⟨5, _⟩ => ⟨S512x1, .f32⟩
  | .local _ .vmem, ⟨6, _⟩ => ⟨S512x1, .f32⟩
  | .local _ .vmem, ⟨7, _⟩ => ⟨S1x4096, .f32⟩
  | .local _ .vmem, ⟨8, _⟩ => ⟨S512x1, .f32⟩
  | .local _ .vmem, ⟨9, _⟩ => ⟨S512x1, .f32⟩
  | .local _ .vmem, ⟨10, _⟩ => ⟨S1x4096, .f32⟩
  | .local _ .vmem, ⟨11, _⟩ => ⟨S512x1, .f32⟩
  | .local _ .vmem, ⟨12, _⟩ => ⟨S512x1, .f32⟩
  | .local _ .vmem, ⟨13, _⟩ => ⟨S512x1, .i32⟩
  | .local _ .vmem, ⟨14, _⟩ => ⟨S512x1, .i32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x4096x512 : Shape := ⟨3, ![1, 4096, 512]⟩
abbrev S4096 : Shape := ⟨1, ![4096]⟩
abbrev S_ : Shape := ⟨0, ![]⟩
abbrev S64 : Shape := ⟨1, ![64]⟩
abbrev S4096x1 : Shape := ⟨2, ![4096, 1]⟩
abbrev S64x512 : Shape := ⟨2, ![64, 512]⟩
abbrev S1x64x512 : Shape := ⟨3, ![1, 64, 512]⟩
abbrev S1x64x1 : Shape := ⟨3, ![1, 64, 1]⟩
abbrev S1 : Shape := ⟨1, ![1]⟩
abbrev S1x1 : Shape := ⟨2, ![1, 1]⟩
abbrev S1x4096 : Shape := ⟨2, ![1, 4096]⟩
abbrev S1x4096x1 : Shape := ⟨3, ![1, 4096, 1]⟩
abbrev S1x1x4096 : Shape := ⟨3, ![1, 1, 4096]⟩
abbrev S1x4096x4096 : Shape := ⟨3, ![1, 4096, 4096]⟩

abbrev nBuf : Space → Nat
  | .hbm => 134
  | .vmem => 0
  | .smem => 0
  | _ => 0

abbrev hbmTy0_0 (i : Nat) : BufTy := match i % 128 with
  | 0 => ⟨S1x4096x512, .f32⟩
  | 1 => ⟨S4096, .i32⟩
  | 2 => ⟨S_, .f32⟩
  | 3 => ⟨S4096, .f32⟩
  | 4 => ⟨S_, .f32⟩
  | 5 => ⟨S64, .f32⟩
  | 6 => ⟨S4096x1, .i32⟩
  | 7 => ⟨S64, .f32⟩
  | 8 => ⟨S_, .f32⟩
  | 9 => ⟨S64x512, .f32⟩
  | 10 => ⟨S4096x1, .i32⟩
  | 11 => ⟨S1x64x512, .f32⟩
  | 12 => ⟨S1x64x512, .f32⟩
  | 13 => ⟨S_, .f32⟩
  | 14 => ⟨S_, .f32⟩
  | 15 => ⟨S64, .f32⟩
  | 16 => ⟨S64, .f32⟩
  | 17 => ⟨S1x64x1, .f32⟩
  | 18 => ⟨S1x64x512, .f32⟩
  | 19 => ⟨S1x64x512, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S1, .i32⟩
  | 29 => ⟨S_, .i32⟩
  | 30 => ⟨S4096x1, .i32⟩
  | 31 => ⟨S4096x1, .i1⟩
  | 32 => ⟨S1x1, .i32⟩
  | 33 => ⟨S4096x1, .i32⟩
  | 34 => ⟨S4096x1, .i1⟩
  | 35 => ⟨S4096x1, .i1⟩
  | 36 => ⟨S_, .i1⟩
  | 37 => ⟨S4096, .i1⟩
  | 38 => ⟨S1x4096x512, .f32⟩
  | 39 => ⟨S1x4096x512, .i1⟩
  | 40 => ⟨S_, .f32⟩
  | 41 => ⟨S1x4096x512, .f32⟩
  | 42 => ⟨S1x4096x512, .f32⟩
  | 43 => ⟨S1x4096x512, .f32⟩
  | 44 => ⟨S1x4096x512, .f32⟩
  | 45 => ⟨S_, .f32⟩
  | 46 => ⟨S1x4096, .f32⟩
  | 47 => ⟨S_, .f32⟩
  | 48 => ⟨S1x4096, .f32⟩
  | 49 => ⟨S1x4096, .f32⟩
  | 50 => ⟨S_, .f32⟩
  | 51 => ⟨S1, .f32⟩
  | 52 => ⟨S1x1, .f32⟩
  | 53 => ⟨S_, .f32⟩
  | 54 => ⟨S1, .f32⟩
  | 55 => ⟨S1x1, .f32⟩
  | 56 => ⟨S1x4096, .f32⟩
  | 57 => ⟨S1x4096, .f32⟩
  | 58 => ⟨S1x1, .f32⟩
  | 59 => ⟨S1x4096, .f32⟩
  | 60 => ⟨S1x4096, .f32⟩
  | 61 => ⟨S_, .f32⟩
  | 62 => ⟨S1x4096, .f32⟩
  | 63 => ⟨S1x4096, .f32⟩
  | 64 => ⟨S1x4096, .i32⟩
  | 65 => ⟨S1x4096, .f32⟩
  | 66 => ⟨S1x4096, .f32⟩
  | 67 => ⟨S_, .f32⟩
  | 68 => ⟨S1, .f32⟩
  | 69 => ⟨S1x1, .f32⟩
  | 70 => ⟨S_, .f32⟩
  | 71 => ⟨S1, .f32⟩
  | 72 => ⟨S1x1, .f32⟩
  | 73 => ⟨S1x4096, .f32⟩
  | 74 => ⟨S1x4096, .f32⟩
  | 75 => ⟨S1x1, .f32⟩
  | 76 => ⟨S1x4096, .f32⟩
  | 77 => ⟨S1x4096, .f32⟩
  | 78 => ⟨S_, .f32⟩
  | 79 => ⟨S1x4096, .f32⟩
  | 80 => ⟨S1x4096, .f32⟩
  | 81 => ⟨S_, .f32⟩
  | 82 => ⟨S_, .f32⟩
  | 83 => ⟨S_, .f32⟩
  | 84 => ⟨S1x4096x1, .f32⟩
  | 85 => ⟨S1x1x4096, .f32⟩
  | 86 => ⟨S1x4096x4096, .f32⟩
  | 87 => ⟨S1x4096x4096, .f32⟩
  | 88 => ⟨S1x4096x4096, .f32⟩
  | 89 => ⟨S1x4096x4096, .f32⟩
  | 90 => ⟨S1x4096x4096, .f32⟩
  | 91 => ⟨S1x4096x4096, .f32⟩
  | 92 => ⟨S1x4096x4096, .f32⟩
  | 93 => ⟨S_, .f32⟩
  | 94 => ⟨S1x4096x4096, .f32⟩
  | 95 => ⟨S1x4096x4096, .f32⟩
  | 96 => ⟨S_, .f32⟩
  | 97 => ⟨S1x4096x4096, .f32⟩
  | 98 => ⟨S1x4096x4096, .f32⟩
  | 99 => ⟨S_, .f32⟩
  | 100 => ⟨S1x4096, .f32⟩
  | 101 => ⟨S_, .f32⟩
  | 102 => ⟨S1x4096, .f32⟩
  | 103 => ⟨S1x4096, .f32⟩
  | 104 => ⟨S1x4096, .i32⟩
  | 105 => ⟨S1x4096, .f32⟩
  | 106 => ⟨S1x4096, .i32⟩
  | 107 => ⟨S1x4096, .i32⟩
  | 108 => ⟨S1x4096, .i32⟩
  | 109 => ⟨S1x4096, .i32⟩
  | 110 => ⟨S_, .i32⟩
  | 111 => ⟨S_, .i32⟩
  | 112 => ⟨S1x4096, .i32⟩
  | 113 => ⟨S1x4096, .i32⟩
  | 114 => ⟨S1x4096, .i32⟩
  | 115 => ⟨S_, .i32⟩
  | 116 => ⟨S1x4096, .i32⟩
  | 117 => ⟨S1x4096, .i1⟩
  | 118 => ⟨S1x4096, .i32⟩
  | 119 => ⟨S1x4096, .i32⟩
  | 120 => ⟨S_, .i32⟩
  | 121 => ⟨S1x4096, .i32⟩
  | 122 => ⟨S1x4096, .i1⟩
  | 123 => ⟨S1x4096, .i1⟩
  | 124 => ⟨S_, .i32⟩
  | 125 => ⟨S1x4096, .i32⟩
  | 126 => ⟨S1x4096, .i32⟩
  | 127 => ⟨S1x4096, .i32⟩
  | _ => ⟨S1x4096x512, .f32⟩

abbrev hbmTy0_1 (i : Nat) : BufTy := match i % 128 with
  | 0 => ⟨S_, .i32⟩
  | 1 => ⟨S1x4096, .i32⟩
  | 2 => ⟨S1x4096, .i32⟩
  | 3 => ⟨S1x4096x1, .f32⟩
  | 4 => ⟨S1x4096x1, .i32⟩
  | 5 => ⟨S1x4096x1, .f32⟩
  | _ => ⟨S1x4096x512, .f32⟩

abbrev hbmTy (i : Nat) : BufTy := match i / 128 with
  | 0 => hbmTy0_0 i
  | 1 => hbmTy0_1 i
  | _ => ⟨S1x4096x512, .f32⟩

abbrev bufTy : (tb : Table) → Fin (tcTables nBuf tb) → BufTy
  | .hbm, ⟨i, _⟩ => hbmTy i
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_cst_5 : Ref sig .tc := ⟨.hbm, 50, rfl⟩
abbrev main_v18 : Ref sig .tc := ⟨.hbm, 51, rfl⟩
abbrev main_v19 : Ref sig .tc := ⟨.hbm, 52, rfl⟩
abbrev main_cst_6 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_7 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_8 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_cst_11 : Ref sig .tc := ⟨.hbm, 81, rfl⟩
abbrev main_cst_12 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_v56 : Ref sig .tc := ⟨.hbm, 98, rfl⟩
abbrev main_cst_15 : Ref sig .tc := ⟨.hbm, 99, rfl⟩
abbrev main_v57 : Ref sig .tc := ⟨.hbm, 100, rfl⟩
abbrev main_cst_16 : Ref sig .tc := ⟨.hbm, 101, rfl⟩
abbrev main_v58 : Ref sig .tc := ⟨.hbm, 102, rfl⟩
abbrev main_v59 : Ref sig .tc := ⟨.hbm, 103, rfl⟩
abbrev main_call2_v0 : Ref sig .tc := ⟨.hbm, 104, rfl⟩
abbrev main_call2_v1_0 : Ref sig .tc := ⟨.hbm, 105, rfl⟩
abbrev main_v60 : Ref sig .tc := ⟨.hbm, 106, rfl⟩
abbrev main_call3_v0 : Ref sig .tc := ⟨.hbm, 107, rfl⟩
abbrev main_call3_v1_0 : Ref sig .tc := ⟨.hbm, 108, rfl⟩
abbrev main_v61 : Ref sig .tc := ⟨.hbm, 109, rfl⟩
abbrev main_c : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_c : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_0 : Ref sig .tc := ⟨.hbm, 124, rfl⟩
abbrev main_call4_v12 : Ref sig .tc := ⟨.hbm, 125, rfl⟩
abbrev main_call4_v13 : Ref sig .tc := ⟨.hbm, 126, rfl⟩
abbrev main_v62 : Ref sig .tc := ⟨.hbm, 127, rfl⟩
abbrev main_c_17 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩

abbrev nD : Nat := 1
abbrev τ : Topo := Topo.v7x

variable {F : FTy → Type} [FloatOps F]
-- ==== Proof.KernelRun.lean ====
/- The kernel's run: its result arrays end at what the two regions left, read back through the reshapes. -/
module

public import proofs.«01_k».proof.Proof.Gen.KernelIdeal.Frame
public import Idealize.ShloMosaic.Lib.Pointwise

@[expose] public section

set_option maxRecDepth 16384

noncomputable section

namespace Cert.KernelIdeal.Ranks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with each result array at the last boundary's contents and the arguments as launched. -/
theorem run : θ_run defs (onTc (τ := τ) (main (F := Ideal))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v7 (by decide)), h c _ (mem_uc main_v8 (by decide)), h c _ (mem_uc main_v9 (by decide)),
       (h c _ (mem_uc main_arg0 (by decide))).trans (W5_main_arg0 m ρ c),
       (h c _ (mem_uc main_arg1 (by decide))).trans (W5_main_arg1 m ρ c)⟩)

/-- Before region 0 the 4096×512 array is the table, recast. -/
theorem V1_v0 (c : Dev nD) : V1 m ρ c main_v0 = shapeCast S4096x512 (m ((c : Thread nD τ).loc main_arg0)) shapeCasts_S1x4096x512_S4096x512 := by
  show StableHlo.after hostOps0 (W0 m ρ c) (Proc.devRef .tc main_v0) = _
  after_results_simp
  rfl

/-- Before region 0 the row of labels is the label vector, recast. -/
theorem V1_v1 (c : Dev nD) : V1 m ρ c main_v1 = shapeCast S1x4096 (m ((c : Thread nD τ).loc main_arg1)) shapeCasts_S4096_S1x4096 := by
  show StableHlo.after hostOps0 (W0 m ρ c) (Proc.devRef .tc main_v1) = _
  after_results_simp
  rfl

/-- Before region 0 the column of labels is the label vector, recast. -/
theorem V1_v2 (c : Dev nD) : V1 m ρ c main_v2 = shapeCast S4096x1 (m ((c : Thread nD τ).loc main_arg1)) shapeCasts_S4096_S4096x1 := by
  show StableHlo.after hostOps0 (W0 m ρ c) (Proc.devRef .tc main_v2) = _
  after_results_simp
  rfl

/-- What region 0 leaves in its first output: the scores, as a column. -/
abbrev scoreCol (c : Dev nD) : FVec Ideal S4096x1 .f32 := (dat0 (V1 m ρ) c).arrAt 3 cfg0.N

/-- What region 0 leaves in its second output: the scaled scores, as a column. -/
abbrev scaledCol (c : Dev nD) : FVec Ideal S4096x1 .f32 := (dat0 (V1 m ρ) c).arrAt 4 cfg0.N

/-- Region 1 is entered with the score column as region 0 left it. -/
theorem V3_scores (c : Dev nD) : V3 m ρ c main_v3_0 = scoreCol m ρ c :=
  (W3_of m ρ c main_v3_0 (by decide)).trans (W2_arr m ρ c 3)

/-- Region 1 is entered with the scaled column as region 0 left it. -/
theorem V3_scaled (c : Dev nD) : V3 m ρ c main_v3_1 = scaledCol m ρ c :=
  (W3_of m ρ c main_v3_1 (by decide)).trans (W2_arr m ρ c 4)

/-- Region 1 is entered with the scaled scores also as a row. -/
theorem V3_scaledRow (c : Dev nD) : V3 m ρ c main_v4 = shapeCast S1x4096 (scaledCol m ρ c) shapeCasts_S4096x1_S1x4096 := by
  have h : W2 m ρ c (Proc.devRef .tc main_v3_1) = scaledCol m ρ c := W2_arr m ρ c 4
  rw [← h]
  show StableHlo.after hostOps1 (W2 m ρ c) (Proc.devRef .tc main_v4) = _
  after_results_simp
  rfl

/-- Region 1 is entered with the scores also as a row. -/
theorem V3_scoresRow (c : Dev nD) : V3 m ρ c main_v5 = shapeCast S1x4096 (scoreCol m ρ c) shapeCasts_S4096x1_S1x4096 := by
  have h : W2 m ρ c (Proc.devRef .tc main_v3_0) = scoreCol m ρ c := W2_arr m ρ c 3
  rw [← h]
  show StableHlo.after hostOps1 (W2 m ρ c) (Proc.devRef .tc main_v5) = _
  after_results_simp
  rfl

/-- What region 1 leaves in its first output: the soft ranks, as a column. -/
abbrev softCol (c : Dev nD) : FVec Ideal S4096x1 .f32 := (dat1 (V3 m ρ) c).arrAt 4 cfg1.N

/-- What region 1 leaves in its second output: the buckets, as a column. -/
abbrev bucketCol (c : Dev nD) : IVec S4096x1 32 := (dat1 (V3 m ρ) c).arrAt 5 cfg1.N

/-- The first result is the soft-rank column, recast. -/
theorem W5_soft (c : Dev nD) : W5 m ρ c (Proc.devRef .tc main_v7) = shapeCast S1x4096x1 (softCol m ρ c) shapeCasts_S4096x1_S1x4096x1 := by
  have h : W4 m ρ c (Proc.devRef .tc main_v6_0) = softCol m ρ c := W4_arr m ρ c 4
  rw [← h]
  show StableHlo.after hostOps2 (W4 m ρ c) (Proc.devRef .tc main_v7) = _
  after_results_simp
  rfl

/-- The second result is the bucket column, recast. -/
theorem W5_bucket (c : Dev nD) : W5 m ρ c (Proc.devRef .tc main_v8) = shapeCast S1x4096x1 (bucketCol m ρ c) shapeCasts_S4096x1_S1x4096x1 := by
  have h : W4 m ρ c (Proc.devRef .tc main_v6_1) = bucketCol m ρ c := W4_arr m ρ c 5
  rw [← h]
  show StableHlo.after hostOps2 (W4 m ρ c) (Proc.devRef .tc main_v8) = _
  after_results_simp
  rfl

/-- The third result is the score column, recast. -/
theorem W5_scores (c : Dev nD) : W5 m ρ c (Proc.devRef .tc main_v9) = shapeCast S1x4096x1 (scoreCol m ρ c) shapeCasts_S4096x1_S1x4096x1 := by
  have h : W4 m ρ c (Proc.devRef .tc main_v3_0) = scoreCol m ρ c :=
    (W4_of m ρ c main_v3_0 (by decide +kernel)).trans (V3_scores m ρ c)
  rw [← h]
  show StableHlo.after hostOps2 (W4 m ρ c) (Proc.devRef .tc main_v9) = _
  after_results_simp
  rfl

end Cert.KernelIdeal.Ranks
-- ==== Proof.Places.lean ====
/- The place of an entry in a list ordered by a key with ties broken by position, and what a stable sort of the positions by that key leaves. -/
module

public import Idealize.ShloMosaic.Lib.SortFacts
public import Idealize.ShloMosaic.Lib.PlanTiles.StableSort
public import Idealize.ShloMosaic.Lib.Routing.Words
public import Idealize.ShloMosaic.Lib.IdealHost

@[expose] public section

noncomputable section

namespace Cert.Places

open Idealize.ShloMosaic

variable {n : ℕ} {α : Type} [LinearOrder α]

/-- Position `j` comes before position `i`: its key is smaller, or the keys are equal and it stands earlier. -/
def Prec (key : Fin n → α) (j i : Fin n) : Prop := key j < key i ∨ (key j = key i ∧ j < i)

instance (key : Fin n → α) (j i : Fin n) : Decidable (Prec key j i) := by unfold Prec; infer_instance

/-- How many positions come before position `i`. -/
def place (key : Fin n → α) (i : Fin n) : ℕ := (Finset.univ.filter fun j => Prec key j i).card

/-- "Before" is irreflexive. -/
theorem not_prec_self (key : Fin n → α) (i : Fin n) : ¬ Prec key i i := by
  rintro (h | ⟨_, h⟩) <;> exact lt_irrefl _ h

/-- "Before" is never so both ways round. -/
theorem prec_asymm (key : Fin n → α) {i j : Fin n} (h : Prec key i j) : ¬ Prec key j i := by
  rcases h with h | ⟨h, h'⟩
  · rintro (g | ⟨g, -⟩)
    · exact lt_asymm h g
    · exact absurd h (by rw [g]; exact lt_irrefl _)
  · rintro (g | ⟨-, g⟩)
    · exact absurd g (by rw [h]; exact lt_irrefl _)
    · exact lt_asymm h' g

/-- There are fewer than `n` positions before any position. -/
theorem place_lt (key : Fin n → α) (i : Fin n) : place key i < n := by
  have h : (Finset.univ.filter fun j => Prec key j i) ⊂ Finset.univ :=
    Finset.ssubset_univ_iff.mpr fun e => not_prec_self key i (by
      have := Finset.mem_univ i
      rw [← e] at this
      exact (Finset.mem_filter.mp this).2)
  have := Finset.card_lt_card h
  simpa [place] using this

/-- How many keys are greater: a natural number that orders the positions the other way round from their keys. -/
def above (key : Fin n → α) (i : Fin n) : ℕ := (Finset.univ.filter fun j => key i < key j).card

/-- A greater key has fewer keys above it, and conversely. -/
theorem above_lt_iff (key : Fin n → α) (i j : Fin n) : above key j < above key i ↔ key i < key j := by
  constructor
  · intro h
    by_contra hn
    refine absurd h (not_lt.mpr (Finset.card_le_card fun x hx => ?_))
    exact Finset.mem_filter.mpr ⟨Finset.mem_univ _, lt_of_le_of_lt (not_lt.mp hn) (Finset.mem_filter.mp hx).2⟩
  · intro h
    refine Finset.card_lt_card ⟨fun x hx => ?_, fun hs => ?_⟩
    · exact Finset.mem_filter.mpr ⟨Finset.mem_univ _, lt_trans h (Finset.mem_filter.mp hx).2⟩
    · have hj := hs (Finset.mem_filter.mpr ⟨Finset.mem_univ j, h⟩)
      exact lt_irrefl _ (Finset.mem_filter.mp hj).2

/-- Keys with equally many keys above them are equal. -/
theorem key_eq_of_above (key : Fin n → α) {i j : Fin n} (h : above key i = above key j) : key i = key j :=
  le_antisymm (not_lt.mp fun g => absurd ((above_lt_iff key _ _).mpr g) (by rw [h]; exact lt_irrefl _))
    (not_lt.mp fun g => absurd ((above_lt_iff key _ _).mpr g) (by rw [h]; exact lt_irrefl _))

/-- The stable sort of the positions by a key leaves them in the order "before". -/
theorem sorted_prec (key : Fin n → α) (R : Fin n → Fin n → Bool) (hR : ∀ a b, R a b = decide (key a < key b))
    {k k' : Fin n} (h : k < k') : Prec key (sortedFrom R k) (sortedFrom R k') := by
  have hR' : R = fun a b => decide (above key b < above key a) := by
    funext a b
    rw [hR a b]
    exact decide_eq_decide.mpr (above_lt_iff key a b).symm
  have hp := List.pairwise_iff_get.mp
    (PlanTiles.pairwise_stableSort_lex (above key) (· < ·) (List.finRange n) (List.pairwise_lt_finRange n))
  subst hR'
  have := hp (k.cast (length_sortPositions n _).symm) (k'.cast (length_sortPositions n _).symm) h
  rcases this with h1 | ⟨h1, h2⟩
  · exact Or.inl ((above_lt_iff key _ _).mp h1)
  · exact Or.inr ⟨key_eq_of_above key h1, h2⟩

/-- The position a stable sort puts at `k` has exactly `k` positions before it. -/
theorem place_sorted (key : Fin n → α) (R : Fin n → Fin n → Bool) (hR : ∀ a b, R a b = decide (key a < key b))
    (k : Fin n) : place key (sortedFrom R k) = k.val := by
  have e : (Finset.univ.filter fun j => Prec key j (sortedFrom R k)) = (Finset.Iio k).image (sortedFrom R) := by
    ext j
    rw [Finset.mem_filter, Finset.mem_image]
    constructor
    · rintro ⟨-, hj⟩
      obtain ⟨l, rfl⟩ := sortedFrom_surjective R j
      refine ⟨l, Finset.mem_Iio.mpr ?_, rfl⟩
      rcases lt_trichotomy l k with h | h | h
      · exact h
      · subst h; exact absurd hj (not_prec_self key _)
      · exact absurd hj (prec_asymm key (sorted_prec key R hR h))
    · rintro ⟨l, hl, rfl⟩
      exact ⟨Finset.mem_univ _, sorted_prec key R hR (Finset.mem_Iio.mp hl)⟩
  unfold place
  rw [e, Finset.card_image_of_injective _ (sortedFrom_injective R), Fin.card_Iio]

/-- For a key that is a permutation of the positions, the place of a position is its key. -/
theorem place_perm (σ : Fin n → Fin n) (hσ : Function.Bijective σ) (i : Fin n) : place σ i = (σ i).val := by
  have e : ((Finset.univ.filter fun j => Prec σ j i).image σ) = Finset.Iio (σ i) := by
    ext j
    rw [Finset.mem_image, Finset.mem_Iio]
    constructor
    · rintro ⟨l, hl, rfl⟩
      rcases (Finset.mem_filter.mp hl).2 with h | ⟨h, h'⟩
      · exact h
      · exact absurd h' (by rw [hσ.1 h]; exact lt_irrefl _)
    · intro hj
      obtain ⟨l, rfl⟩ := hσ.2 j
      exact ⟨l, Finset.mem_filter.mpr ⟨Finset.mem_univ _, Or.inl hj⟩, rfl⟩
  unfold place
  rw [← Finset.card_image_of_injective _ hσ.1, e, Fin.card_Iio]

/-- Sorting the positions by key, then sorting that permutation, gives every position's place: the second sort inverts the first. -/
theorem sorted_twice (key : Fin n → α) (R R' : Fin n → Fin n → Bool) (hR : ∀ a b, R a b = decide (key a < key b))
    (hR' : ∀ a b, R' a b = decide (sortedFrom R a < sortedFrom R b)) (k : Fin n) : (sortedFrom R' k).val = place key k := by
  have h1 := place_sorted (sortedFrom R) R' hR' k
  rw [place_perm _ ⟨sortedFrom_injective R, sortedFrom_surjective R⟩] at h1
  have h2 := place_sorted key R hR (sortedFrom R' k)
  rw [Fin.ext h1] at h2
  exact h2.symm

end Cert.Places
-- ==== Proof.Spec.lean ====
/- The mathematics both programs compute: cluster centres, scores, soft ranks and rank buckets of 4096 rows. -/
module

public import proofs.«01_k».proof.Proof.Places
public import Idealize.ShloMosaic.Lib.Pointwise
public import Idealize.ShloMosaic.Lib.IndicatorCount

@[expose] public section

noncomputable section

namespace Cert.Spec

open Idealize.ShloMosaic Cert.Places

/-- One where two words agree, zero where they differ. -/
def hit (a b : BitVec 32) : EReal := if a = b then 1 else 0

variable (T : Fin 4096 → Fin 512 → EReal) (L : Fin 4096 → BitVec 32)

/-- How many rows carry the label `w`. -/
def count (w : BitVec 32) : EReal := ∑ i, hit (L i) w

/-- The sum, in column `d`, of the rows that carry the label `w`. -/
def total (w : BitVec 32) (d : Fin 512) : EReal := ∑ i, hit (L i) w * T i d

/-- The centre of the rows that carry the label `w`, the divisor kept at one or more. -/
def center (w : BitVec 32) (d : Fin 512) : EReal := Ideal.div (total T L w d) (max 1 (count L w))

/-- The mean squared distance of a row from the centre of its cluster. -/
def dist (i : Fin 4096) : EReal :=
  Ideal.div (∑ d, (T i d - center T L (L i) d) * (T i d - center T L (L i) d)) ((512 : ℝ) : EReal)

/-- A family of values moved to start at zero and divided by its spread. -/
def spread (f : Fin 4096 → EReal) (i : Fin 4096) : EReal :=
  Ideal.div (f i - Finset.univ.inf f) (Finset.univ.sup f - Finset.univ.inf f)

/-- A row's score: its distance spread over the unit interval, plus its label's number. -/
def score (i : Fin 4096) : EReal := spread (dist T L) i + FloatOps.sitofp (F := Ideal) .f32 (L i)

/-- A row's soft rank among values `s`: one half plus the logistic of ten times each difference. -/
def soft (s : Fin 4096 → EReal) (i : Fin 4096) : EReal :=
  Ideal.ofBits .f32 0x3F000000#32 + ∑ j, Ideal.div 1 (1 + Ideal.exp (-((s i - s j) * ((10 : ℝ) : EReal))))

/-- The bucket of 64 places, counted from one, a row falls in when the rows are ordered by value and then by position. -/
def bucket (s : Fin 4096 → EReal) (i : Fin 4096) : BitVec 32 := BitVec.ofNat 32 (place s i / 64) + 1#32

/-- Every label is one of 0 to 63. -/
def InRange : Prop := ∀ i, ∃ k : Fin 64, L i = BitVec.ofNat 32 k.val

/-- The pattern of positive infinity is the top value. -/
theorem ofBits_top : Ideal.ofBits .f32 0x7F800000#32 = ⊤ := by simp [Ideal.ofBits, Ideal.ieee]

/-- The pattern of negative infinity is the bottom value. -/
theorem ofBits_bot : Ideal.ofBits .f32 0xFF800000#32 = ⊥ := by simp [Ideal.ofBits, Ideal.ieee]

/-- The pattern of 512. -/
theorem ofBits_512 : Ideal.ofBits .f32 0x44000000#32 = ((512 : ℝ) : EReal) := by
  simp [Ideal.ofBits, Ideal.ieee, -EReal.coe_mul]; norm_num

/-- The pattern of one part in 512. -/
theorem ofBits_512th : Ideal.ofBits .f32 0x3B000000#32 = (((1 : ℝ) / 512 : ℝ) : EReal) := by
  simp [Ideal.ofBits, Ideal.ieee, -EReal.coe_mul]; norm_num

/-- The pattern of ten. -/
theorem ofBits_ten : Ideal.ofBits .f32 0x41200000#32 = ((10 : ℝ) : EReal) := by
  simp [Ideal.ofBits, Ideal.ieee, -EReal.coe_mul]; norm_num

/-- Multiplying by one part in 512 is dividing by 512. -/
theorem mul_512th (x : EReal) : x * (((1 : ℝ) / 512 : ℝ) : EReal) = Ideal.div x ((512 : ℝ) : EReal) := by
  unfold Ideal.div
  rw [if_neg (by norm_cast)]
  congr 1
  norm_num [← EReal.coe_inv]

/-- Dividing by one tenth, itself the quotient of one and ten, is multiplying by ten. -/
theorem div_tenth (x : EReal) : Ideal.div x (Ideal.div 1 ((10 : ℝ) : EReal)) = x * ((10 : ℝ) : EReal) := by
  have h : Ideal.div 1 ((10 : ℝ) : EReal) = (((1 : ℝ) / 10 : ℝ) : EReal) := by
    unfold Ideal.div
    rw [if_neg (by norm_cast)]
    norm_num [← EReal.coe_inv]
  rw [h]
  unfold Ideal.div
  rw [if_neg (by norm_cast; norm_num)]
  congr 1
  rw [← EReal.coe_inv]
  norm_num

/-- A fold by minimum from the top over a set that a family runs through is the family's infimum. -/
theorem fold_min {ι : Type} (S : Finset ι) (g : ι → EReal) (e : Fin 4096 → ι) (he : ∀ k, e k ∈ S)
    (hs : ∀ x ∈ S, ∃ k, e k = x) : S.fold min ⊤ g = Finset.univ.inf fun k => g (e k) := by
  show S.inf g = _
  refine le_antisymm (Finset.le_inf fun k _ => Finset.inf_le (he k)) (Finset.le_inf fun x hx => ?_)
  obtain ⟨k, rfl⟩ := hs x hx
  exact Finset.inf_le (f := fun k => g (e k)) (Finset.mem_univ k)

/-- A fold by maximum from the bottom over a set that a family runs through is the family's supremum. -/
theorem fold_max {ι : Type} (S : Finset ι) (g : ι → EReal) (e : Fin 4096 → ι) (he : ∀ k, e k ∈ S)
    (hs : ∀ x ∈ S, ∃ k, e k = x) : S.fold max ⊥ g = Finset.univ.sup fun k => g (e k) := by
  show S.sup g = _
  refine le_antisymm (Finset.sup_le fun x hx => ?_) (Finset.sup_le fun k _ => Finset.le_sup (he k))
  obtain ⟨k, rfl⟩ := hs x hx
  exact Finset.le_sup (f := fun k => g (e k)) (Finset.mem_univ k)

/-- The comparison bit of two words, widened and read as a number, is one where they agree and zero where not. -/
theorem sitofp_eq (a b : BitVec 32) : FloatOps.sitofp (F := Ideal) .f32 ((IntOp.cmpi .eq a b).setWidth 32) = hit a b := by
  unfold hit
  by_cases h : a = b
  · rw [if_pos h, show IntOp.cmpi .eq a b = 1#1 by simp [IntOp.cmpi, h]]
    show (((((1#1 : BitVec 1).setWidth 32).toInt : ℝ)) : EReal) = 1
    norm_num
  · rw [if_neg h, show IntOp.cmpi .eq a b = 0#1 by simp [IntOp.cmpi, beq_eq_false_iff_ne.mpr h]]
    show (((((0#1 : BitVec 1).setWidth 32).toInt : ℝ)) : EReal) = 0
    norm_num

/-- Summing a family over the labels 0 to 63 against the hits of a label in range picks the family's entry there. -/
theorem sum_hit (w : BitVec 32) (k : Fin 64) (hk : w = BitVec.ofNat 32 k.val) (f : BitVec 32 → EReal) :
    ∑ x : Fin 64, hit w (BitVec.ofNat 32 x.val) * f (BitVec.ofNat 32 x.val) = f w := by
  rw [Finset.sum_eq_single k]
  · rw [← hk, hit, if_pos rfl, one_mul]
  · intro b _ hb
    rw [hit, if_neg, zero_mul]
    rw [hk]
    intro e
    have := congrArg BitVec.toNat e
    simp only [BitVec.toNat_ofNat] at this
    have h1 := k.isLt
    have h2 := b.isLt
    exact hb (Fin.ext (by omega))
  · intro h; exact absurd (Finset.mem_univ k) h

/-- The word of a natural below 4096 is negative for no such natural. -/
theorem slt_ofNat {a b : ℕ} (ha : a < 4096 + 1) (hb : b < 4096 + 1) : (BitVec.ofNat 32 a).slt (BitVec.ofNat 32 b) = decide (a < b) := by
  have h : ∀ n < 4096 + 1, (BitVec.ofNat 32 n).toInt = n := fun n hn => StableHlo.Predicate.toInt_ofNat_small _ (by omega)
  unfold BitVec.slt
  rw [h a ha, h b hb]
  simp

/-- The sign test of floor division by 64 never corrects the quotient of a natural number below 4096:
    the remainder is zero at zero, and any other such number has the sign of 64. -/
theorem floor_div (u : ArithUnit) (n : ℕ) (hn : n < 4096) (sgn one : BitVec 32) (h1 : 0 < n → sgn = one) :
    IntOp.addi (Scalar.select
        (IntOp.andi (IntOp.cmpi .ne sgn one) (IntOp.cmpi .ne (IntOp.remsi u (BitVec.ofNat 32 n) 64#32) 0#32))
        (IntOp.subi (IntOp.divsi u (BitVec.ofNat 32 n) 64#32) 1#32) (IntOp.divsi u (BitVec.ofNat 32 n) 64#32)) 1#32
      = BitVec.ofNat 32 (n / 64) + 1#32 := by
  have hd : IntOp.divsi u (BitVec.ofNat 32 n) 64#32 = BitVec.ofNat 32 (n / 64) :=
    Routing.divsi_word u (by omega) (by norm_num) (by norm_num)
  have hr : IntOp.remsi u (BitVec.ofNat 32 n) 64#32 = BitVec.ofNat 32 (n % 64) :=
    Routing.remsi_word u (by omega) (by norm_num) (by norm_num)
  have hc : IntOp.andi (IntOp.cmpi .ne sgn one) (IntOp.cmpi .ne (IntOp.remsi u (BitVec.ofNat 32 n) 64#32) 0#32) = 0#1 := by
    rcases Nat.eq_zero_or_pos n with rfl | h
    · rw [hr]
      rw [show IntOp.cmpi .ne (BitVec.ofNat 32 (0 % 64)) 0#32 = 0#1 by decide]
      exact BitVec.and_zero
    · rw [h1 h, show IntOp.cmpi .ne one one = 0#1 by simp [IntOp.cmpi]]
      exact BitVec.zero_and
  rw [hc, hd]
  rfl

end Cert.Spec
-- ==== Proof.KernelOps.lean ====
/- What each stored value of the kernel is, entry by entry, as the mathematics of Spec. -/
module

public import proofs.«01_k».proof.Proof.Gen.KernelIdeal.Skeleton
public import proofs.«01_k».proof.Proof.Spec

@[expose] public section

noncomputable section

namespace Cert.KernelIdeal.Ranks

open Idealize.ShloMosaic Cert.KernelIdeal Cert.KernelIdeal.Gen Cert.Places

/-- The first stored column: for labels in range, the scores. -/
theorem pay_scores (T : Fin 4096 → Fin 512 → EReal) (L : Fin 4096 → BitVec 32) (hL : Spec.InRange L)
    (v0 : Vec Ideal S4096x512 .f32) (v2 : Vec Ideal S1x4096 .i32) (v4 : Vec Ideal S4096x1 .i32)
    (h0 : ∀ i d, v0 (ix2 i d) = T i d) (h2 : ∀ i, v2 (ix2 0 i) = L i) (h4 : ∀ i, v4 (ix2 i 0) = L i) (r : Fin 4096) :
    k0_pay2 v0 v2 v4 (ix2 r 0) = Spec.score T L r := by
  pointwise [k0_pay2]
  simp only [Spec.sitofp_eq, Spec.ofBits_top, Spec.ofBits_bot, Spec.ofBits_512th, Spec.mul_512th, h0, h2, h4]
  have hc : ∀ i d, (∑ x : Fin 64, Spec.hit (L i) (BitVec.ofNat 32 x.val) *
      Ideal.div (∑ y, Spec.hit (L y) (BitVec.ofNat 32 x.val) * T y d) (max 1 (∑ y, Spec.hit (L y) (BitVec.ofNat 32 x.val))))
      = Spec.center T L (L i) d := fun i d => by
    obtain ⟨k, hk⟩ := hL i
    exact Spec.sum_hit (L i) k hk fun w => Spec.center T L w d
  have hd : ∀ i, Ideal.div (∑ d, (T i d - Spec.center T L (L i) d) * (T i d - Spec.center T L (L i) d)) ((512 : ℝ) : EReal)
      = Spec.dist T L i := fun _ => rfl
  simp only [hc, hd]
  rw [Spec.fold_min Finset.univ _ (fun k => (k, 0)) (fun _ => Finset.mem_univ _) (fun x _ => ⟨x.1, Prod.ext rfl (Subsingleton.elim _ _)⟩),
    Spec.fold_max Finset.univ _ (fun k => (k, 0)) (fun _ => Finset.mem_univ _) (fun x _ => ⟨x.1, Prod.ext rfl (Subsingleton.elim _ _)⟩)]
  rfl

/-- The second stored column: the spread of the first. -/
theorem pay_scaled (s : Fin 4096 → EReal) (v0 : FVec Ideal S4096x1 .f32) (v1 : FVec Ideal S1x4096x1 .f32)
    (h0 : ∀ i, v0 (ix2 i 0) = s i) (h1 : ∀ i, v1 (ix3 0 i 0) = s i) (r : Fin 4096) :
    k0_pay1 v0 v1 (ix2 r 0) = Spec.spread s r := by
  pointwise [k0_pay1]
  simp only [Spec.ofBits_top, Spec.ofBits_bot, h0]
  rw [Spec.fold_min Finset.univ _ (fun k => (k, 0)) (fun _ => Finset.mem_univ _) (fun x _ => ⟨x.1, Prod.ext rfl (Subsingleton.elim _ _)⟩),
    Spec.fold_max Finset.univ _ (fun k => (k, 0)) (fun _ => Finset.mem_univ _) (fun x _ => ⟨x.1, Prod.ext rfl (Subsingleton.elim _ _)⟩)]
  simp only [h1]
  rfl

/-- The third stored value: a row's soft rank. -/
theorem pay_soft (s : Fin 4096 → EReal) (i : Fin 4096) (v0 : Vec Ideal S512x1 .f32) (v1 : Vec Ideal S1x4096 .f32) (r : Fin 512)
    (h0 : v0 (ix2 r 0) = s i) (h1 : ∀ j, v1 (ix2 0 j) = s j) : k1_pay2 v0 v1 (ix2 r 0) = Spec.soft s i := by
  pointwise [k1_pay2]
  simp only [Spec.ofBits_ten, h0, h1, zero_sub]
  rfl

/-- The counted bits: one where row `j` comes before row `i`. -/
theorem pay_before (s : Fin 4096 → EReal) (i : Fin 4096) (t : grid1.Coords) (v0 : Vec Ideal S512x1 .f32) (v1 : Vec Ideal S1x4096 .f32)
    (r : Fin 512) (hi : i.val = (t 0).val * 512 + r.val) (h0 : v0 (ix2 r 0) = s i) (h1 : ∀ j, v1 (ix2 0 j) = s j) (j : Fin 4096) :
    k1_pay3 t v0 v1 (ix2 r j) = (BitVec.ofBool (decide (Prec s j i))).setWidth 32 := by
  pointwise [k1_pay3]
  simp only [h0, h1]
  have hw : IntOp.addi (Scalar.muli (BitVec.ofNat 32 (t 0).val) 512#32) (BitVec.ofNat 32 r.val) = BitVec.ofNat 32 i.val := by
    rw [hi, BitVec.ofNat_add, BitVec.ofNat_mul]
    rfl
  have hs : IntOp.cmpi .slt (BitVec.ofNat 32 j.val) (BitVec.ofNat 32 i.val) = BitVec.ofBool (decide (j < i)) := by
    show BitVec.ofBool ((BitVec.ofNat 32 j.val).slt (BitVec.ofNat 32 i.val)) = _
    rw [Spec.slt_ofNat (by omega) (by omega)]
    rfl
  rw [hw, hs]
  congr 1
  unfold Prec
  by_cases h1 : s j < s i <;> by_cases h2 : s j = s i <;> by_cases h3 : j < i <;> simp [h1, h2, h3, IntOp.ori, IntOp.andi]

/-- The fourth stored value: a row's bucket. -/
theorem pay_bucket (s : Fin 4096 → EReal) (i : Fin 4096) (t : grid1.Coords) (v0 : Vec Ideal S512x1 .f32) (v1 : Vec Ideal S1x4096 .f32)
    (r : Fin 512) (hi : i.val = (t 0).val * 512 + r.val) (h0 : v0 (ix2 r 0) = s i) (h1 : ∀ j, v1 (ix2 0 j) = s j) :
    k1_pay1 (k1_pay3 t v0 v1) (ix2 r 0) = Spec.bucket s i := by
  pointwise [k1_pay1]
  have hf : Finset.fold IntOp.addi 0#32 (fun x => k1_pay3 t v0 v1 (ix2 r x)) Finset.univ = BitVec.ofNat 32 (place s i) := by
    simp only [pay_before s i t v0 v1 r hi h0 h1]
    rw [IndicatorCount.fold_addi_setWidth_eq_card]
    unfold place
    congr 2
    ext j
    by_cases h : Prec s j i <;> simp [h]
  rw [hf]
  refine Spec.floor_div _ _ (place_lt s i) _ _ fun hp => ?_
  have h1 : IntOp.cmpi .sgt (BitVec.ofNat 32 (place s i)) 0#32 = 1#1 := by
    show BitVec.ofBool ((BitVec.ofNat 32 0).slt (BitVec.ofNat 32 (place s i))) = _
    have := place_lt s i
    rw [Spec.slt_ofNat (by omega) (by omega), decide_eq_true hp]
    rfl
  have h2 : IntOp.cmpi .slt (BitVec.ofNat 32 (place s i)) 0#32 = 0#1 := by
    show BitVec.ofBool ((BitVec.ofNat 32 (place s i)).slt (BitVec.ofNat 32 0)) = _
    have := place_lt s i
    rw [Spec.slt_ofNat (by omega) (by omega), decide_eq_false (by omega)]
    rfl
  rw [h1, h2]
  decide

end Cert.KernelIdeal.Ranks
-- ==== Proof.KernelValues.lean ====
/- What the two regions leave in their output arrays, entry by entry. -/
module

public import proofs.«01_k».proof.Proof.KernelRun
public import proofs.«01_k».proof.Proof.KernelOps
public import Idealize.ShloMosaic.Lib.Pipeline.ValueKit.Geometry
public import Idealize.ShloMosaic.Lib.Pipeline.ValueKit.Acc

@[expose] public section

set_option maxRecDepth 16384

noncomputable section

namespace Cert.KernelIdeal.Ranks

open Idealize.ShloMosaic Idealize.ShloMosaic.TcCoe Cert.KernelIdeal Cert.KernelIdeal.Gen Cert.Places

variable (m : (ℓ : Loc nD τ sig) → Buf (Elt Ideal) ℓ) (ρ : Dev nD → PrngReg)

/-- The table a device is launched with, by row and column. -/
def table (c : Dev nD) (i : Fin 4096) (d : Fin 512) : EReal :=
  (m ((c : Thread nD τ).loc main_arg0) : FVec Ideal S1x4096x512 .f32) (ix3 0 i d)

/-- The labels a device is launched with. -/
def labels (c : Dev nD) (i : Fin 4096) : BitVec 32 := (m ((c : Thread nD τ).loc main_arg1) : IVec S4096 32) (ix1 i)

/-- The scores of a device's rows. -/
def scores (c : Dev nD) : Fin 4096 → EReal := Spec.score (table m c) (labels m c)

/-- The table recast to a matrix, entry by entry. -/
theorem cast_table (x : FVec Ideal S1x4096x512 .f32) (i : Fin 4096) (d : Fin 512) :
    shapeCast S4096x512 x shapeCasts_S1x4096x512_S4096x512 (ix2 i d) = x (ix3 0 i d) := by
  pointwise []

/-- A vector of words recast to a row, entry by entry. -/
theorem cast_row (x : IVec S4096 32) (i : Fin 4096) : shapeCast S1x4096 x shapeCasts_S4096_S1x4096 (ix2 0 i) = x (ix1 i) := by
  pointwise []

/-- A vector of words recast to a column, entry by entry. -/
theorem cast_col (x : IVec S4096 32) (i : Fin 4096) : shapeCast S4096x1 x shapeCasts_S4096_S4096x1 (ix2 i 0) = x (ix1 i) := by
  pointwise []

/-- A column recast to a row, entry by entry. -/
theorem cast_col_row (x : FVec Ideal S4096x1 .f32) (i : Fin 4096) :
    shapeCast S1x4096 x shapeCasts_S4096x1_S1x4096 (ix2 0 i) = x (ix2 i 0) := by
  pointwise []

/-- Region 0 is entered with the table. -/
theorem entry_table (c : Dev nD) (i : Fin 4096) (d : Fin 512) : (V1 m ρ c main_v0 : FVec Ideal S4096x512 .f32) (ix2 i d) = table m c i d := by
  rw [V1_v0]
  exact cast_table _ i d

/-- Region 0 is entered with the labels in a row. -/
theorem entry_row (c : Dev nD) (i : Fin 4096) : (V1 m ρ c main_v1 : IVec S1x4096 32) (ix2 0 i) = labels m c i := by
  rw [V1_v1]
  exact cast_row _ i

/-- Region 0 is entered with the labels in a column. -/
theorem entry_col (c : Dev nD) (i : Fin 4096) : (V1 m ρ c main_v2 : IVec S4096x1 32) (ix2 i 0) = labels m c i := by
  rw [V1_v2]
  exact cast_col _ i

/-- The one point of region 0. -/
abbrev t₀ : Fin cfg0.N := ⟨0, by decide⟩

/-- Region 0's first block is the whole table. -/
theorem block_table (c : Dev nD) (t : Fin cfg0.N) : iblk0 (V1 m ρ) c 0 t = V1 m ρ c main_v0 := by
  have e : ∀ t : Fin cfg0.N, win0_0.index t = ![0, 0] := (by decide +kernel : ∀ t : Fin grid0.N, _)
  funext y
  blk_simp [iblk0]
  refine congrArg (V1 m ρ c main_v0) ?_
  blk_ext [e]

/-- Region 0's second block is the whole row of labels. -/
theorem block_row (c : Dev nD) (t : Fin cfg0.N) : iblk0 (V1 m ρ) c 1 t = V1 m ρ c main_v1 := by
  have e : ∀ t : Fin cfg0.N, win0_1.index t = ![0, 0] := (by decide +kernel : ∀ t : Fin grid0.N, _)
  funext y
  blk_simp [iblk0]
  refine congrArg (V1 m ρ c main_v1) ?_
  blk_ext [e]

/-- Region 0's third block is the whole column of labels. -/
theorem block_col (c : Dev nD) (t : Fin cfg0.N) : iblk0 (V1 m ρ) c 2 t = V1 m ρ c main_v2 := by
  have e : ∀ t : Fin cfg0.N, win0_2.index t = ![0, 0] := (by decide +kernel : ∀ t : Fin grid0.N, _)
  funext y
  blk_simp [iblk0]
  refine congrArg (V1 m ρ c main_v2) ?_
  blk_ext [e]

/-- Loading the three whole blocks leaves them: the first stored value is the payload of the blocks. -/
theorem pay4_eq (x0 : Vec Ideal S4096x512 .f32) (x1 : Vec Ideal S1x4096 .i32) (x2 : Vec Ideal S4096x1 .i32) :
    k0_pay4 x0 x1 x2 = k0_pay2 x0 x1 x2 := by
  unfold k0_pay4
  rw [View.ld_unit_lit _ x0 (by decide), View.ld_unit_lit _ x1 (by decide), View.ld_unit_lit _ x2 (by decide)]

/-- The recast copy of the first stored value. -/
theorem pay3_eq (x0 : Vec Ideal S4096x512 .f32) (x1 : Vec Ideal S1x4096 .i32) (x2 : Vec Ideal S4096x1 .i32) :
    k0_pay3 x0 x1 x2 = shapeCast S1x4096x1 (k0_pay2 x0 x1 x2) shapeCasts_S4096x1_S1x4096x1 := by
  unfold k0_pay3
  rfl

/-- The score column is the first stored value of region 0's arrays. -/
theorem scoreCol_eq (c : Dev nD) : scoreCol m ρ c = k0_pay2 (V1 m ρ c main_v0) (V1 m ρ c main_v1) (V1 m ρ c main_v2) := by
  refine (dat0 (V1 m ρ) c).arrAt_eq_of_after_last 3 t₀ (by decide +kernel) _ fun j => ?_
  blk_simp
  rw [after0_3]
  frame_out
  rw [block_table, block_row, block_col]
  exact congrFun (pay4_eq _ _ _) j

/-- The scaled column is the second stored value of region 0's arrays. -/
theorem scaledCol_eq (c : Dev nD) : scaledCol m ρ c =
    k0_pay1 (k0_pay2 (V1 m ρ c main_v0) (V1 m ρ c main_v1) (V1 m ρ c main_v2))
      (shapeCast S1x4096x1 (k0_pay2 (V1 m ρ c main_v0) (V1 m ρ c main_v1) (V1 m ρ c main_v2)) shapeCasts_S4096x1_S1x4096x1) := by
  refine (dat0 (V1 m ρ) c).arrAt_eq_of_after_last 4 t₀ (by decide +kernel) _ fun j => ?_
  blk_simp
  rw [after0_4]
  frame_out
  rw [block_table, block_row, block_col]
  rw [pay4_eq]
  exact congrFun (congrArg (k0_pay1 _) (pay3_eq _ _ _)) j

/-- For labels in range, the score column holds the scores. -/
theorem scoreCol_apply (c : Dev nD) (hL : Spec.InRange (labels m c)) (i : Fin 4096) : scoreCol m ρ c (ix2 i 0) = scores m c i := by
  rw [scoreCol_eq]
  exact pay_scores _ _ hL _ _ _ (entry_table m ρ c) (entry_row m ρ c) (entry_col m ρ c) i

/-- A column recast with a leading axis of one, entry by entry. -/
theorem cast_col_lead (x : FVec Ideal S4096x1 .f32) (i : Fin 4096) :
    shapeCast S1x4096x1 x shapeCasts_S4096x1_S1x4096x1 (ix3 0 i 0) = x (ix2 i 0) := by
  pointwise []

/-- A column of words recast with a leading axis of one, entry by entry. -/
theorem cast_col_lead_words (x : IVec S4096x1 32) (i : Fin 4096) :
    shapeCast S1x4096x1 x shapeCasts_S4096x1_S1x4096x1 (ix3 0 i 0) = x (ix2 i 0) := by
  pointwise []

/-- For labels in range, the scaled column holds the spread of the scores. -/
theorem scaledCol_apply (c : Dev nD) (hL : Spec.InRange (labels m c)) (i : Fin 4096) :
    scaledCol m ρ c (ix2 i 0) = Spec.spread (scores m c) i := by
  have h : ∀ i, k0_pay2 (V1 m ρ c main_v0) (V1 m ρ c main_v1) (V1 m ρ c main_v2) (ix2 i 0) = scores m c i :=
    pay_scores _ _ hL _ _ _ (entry_table m ρ c) (entry_row m ρ c) (entry_col m ρ c)
  rw [scaledCol_eq]
  exact pay_scaled _ _ _ h (fun i => (cast_col_lead _ i).trans (h i)) i

/-- A column index is its row. -/
theorem col_idx (y : S4096x1.Idx) : ∃ i : Fin 4096, y = ix2 i 0 :=
  ⟨y 0, by funext a; match a with
    | ⟨0, _⟩ => rfl
    | ⟨1, _⟩ => exact Subsingleton.elim (α := Fin 1) _ _⟩

/-- A block column index is its row. -/
theorem blk_idx (y : S512x1.Idx) : ∃ r : Fin 512, y = ix2 r 0 :=
  ⟨y 0, by funext a; match a with
    | ⟨0, _⟩ => rfl
    | ⟨1, _⟩ => exact Subsingleton.elim (α := Fin 1) _ _⟩

/-- The row of the whole that row `r` of region 1's block at point `t` is. -/
def rowOf (t : Fin cfg1.N) (r : Fin 512) : Fin 4096 :=
  ⟨(grid1.coords t 0).val * 512 + r.val, by
    have h : (grid1.coords t 0).val < 8 := (grid1.coords t 0).isLt
    omega⟩

/-- Region 1's block of scaled scores, by row. -/
theorem block_scaled (c : Dev nD) (hL : Spec.InRange (labels m c)) (t : Fin cfg1.N) (r : Fin 512) :
    (iblk1 (V3 m ρ) c 0 t : FVec Ideal S512x1 .f32) (ix2 r 0) = Spec.spread (scores m c) (rowOf t r) := by
  have e : ∀ t : Fin cfg1.N, win1_0.index t = ![(grid1.coords t 0).val, 0] := (by decide +kernel : ∀ t : Fin grid1.N, _)
  blk_simp [iblk1]
  rw [V3_scaled, ← scaledCol_apply m ρ c hL]
  refine congrArg (scaledCol m ρ c) ?_
  blk_ext [e, rowOf]

/-- Region 1's row of scaled scores. -/
theorem block_scaledRow (c : Dev nD) (hL : Spec.InRange (labels m c)) (t : Fin cfg1.N) (i : Fin 4096) :
    (iblk1 (V3 m ρ) c 1 t : FVec Ideal S1x4096 .f32) (ix2 0 i) = Spec.spread (scores m c) i := by
  have e : ∀ t : Fin cfg1.N, win1_1.index t = ![0, 0] := (by decide +kernel : ∀ t : Fin grid1.N, _)
  rw [← scaledCol_apply m ρ c hL, ← cast_col_row (scaledCol m ρ c)]
  blk_simp [iblk1]
  rw [V3_scaledRow]
  refine congrArg (shapeCast S1x4096 (scaledCol m ρ c) shapeCasts_S4096x1_S1x4096) ?_
  blk_ext [e]

/-- Region 1's block of scores, by row. -/
theorem block_scores (c : Dev nD) (hL : Spec.InRange (labels m c)) (t : Fin cfg1.N) (r : Fin 512) :
    (iblk1 (V3 m ρ) c 2 t : FVec Ideal S512x1 .f32) (ix2 r 0) = scores m c (rowOf t r) := by
  have e : ∀ t : Fin cfg1.N, win1_2.index t = ![(grid1.coords t 0).val, 0] := (by decide +kernel : ∀ t : Fin grid1.N, _)
  blk_simp [iblk1]
  rw [V3_scores, ← scoreCol_apply m ρ c hL]
  refine congrArg (scoreCol m ρ c) ?_
  blk_ext [e, rowOf]

/-- Region 1's row of scores. -/
theorem block_scoresRow (c : Dev nD) (hL : Spec.InRange (labels m c)) (t : Fin cfg1.N) (i : Fin 4096) :
    (iblk1 (V3 m ρ) c 3 t : FVec Ideal S1x4096 .f32) (ix2 0 i) = scores m c i := by
  have e : ∀ t : Fin cfg1.N, win1_3.index t = ![0, 0] := (by decide +kernel : ∀ t : Fin grid1.N, _)
  rw [← scoreCol_apply m ρ c hL, ← cast_col_row (scoreCol m ρ c)]
  blk_simp [iblk1]
  rw [V3_scoresRow]
  refine congrArg (shapeCast S1x4096 (scoreCol m ρ c) shapeCasts_S4096x1_S1x4096) ?_
  blk_ext [e]

/-- For labels in range, the soft-rank column holds the soft ranks of the spread scores. -/
theorem softCol_eq (c : Dev nD) (hL : Spec.InRange (labels m c)) :
    softCol m ρ c = fun y => Spec.soft (Spec.spread (scores m c)) (y 0) := by
  have e : ∀ t : Fin cfg1.N, win1_4.index t = ![(grid1.coords t 0).val, 0] := (by decide +kernel : ∀ t : Fin grid1.N, _)
  refine (dat1 (V3 m ρ) c).arrAt_eq_of_covers 4 _ (by decide +kernel) fun t hf y => ?_
  blk_simp
  rw [after1_4]
  frame_out
  obtain ⟨r, rfl⟩ := blk_idx y
  refine (pay_soft (Spec.spread (scores m c)) (rowOf t r) _ _ r (block_scaled m ρ c hL t r) (block_scaledRow m ρ c hL t)).trans ?_
  refine congrArg (Spec.soft (Spec.spread (scores m c))) ?_
  apply Fin.ext
  blk_simp [e, rowOf]

/-- For labels in range, the bucket column holds the buckets of the scores. -/
theorem bucketCol_eq (c : Dev nD) (hL : Spec.InRange (labels m c)) :
    bucketCol m ρ c = fun y => Spec.bucket (scores m c) (y 0) := by
  have e : ∀ t : Fin cfg1.N, win1_5.index t = ![(grid1.coords t 0).val, 0] := (by decide +kernel : ∀ t : Fin grid1.N, _)
  refine (dat1 (V3 m ρ) c).arrAt_eq_of_covers 5 _ (by decide +kernel) fun t hf y => ?_
  blk_simp
  rw [after1_5]
  frame_out
  obtain ⟨r, rfl⟩ := blk_idx y
  refine (pay_bucket (scores m c) (rowOf t r) _ _ _ r rfl (block_scores m ρ c hL t r) (block_scoresRow m ρ c hL t)).trans ?_
  refine congrArg (Spec.bucket (scores m c)) ?_
  apply Fin.ext
  blk_simp [e, rowOf]

end Cert.KernelIdeal.Ranks
-- ==== Proof.ReferenceIndexing.lean ====
/- The reference's two segment sums and its row look-up, entry by entry. -/
module

public import proofs.«01_k».proof.Proof.Gen.ReferenceIdeal
public import proofs.«01_k».proof.Proof.Spec
public import Idealize.ShloMosaic.Lib.Routing.OpsPair

@[expose] public section

noncomputable section

namespace Cert.ReferenceIdeal.Ranks

open Idealize.ShloMosaic Cert.ReferenceIdeal Cert.ReferenceIdeal.Gen

/-- The look-up of row `k` of the table, where the index word of result row `i` is `k`'s. -/
theorem gather_apply (x : S1x64x512.Idx → EReal) (idx : IVec S4096x1 32) (i : Fin 4096) (d : Fin 512) (k : Fin 64)
    (h : idx (ix2 i 0) = BitVec.ofNat 32 k.val) :
    Host.gather gather_S1x64x512_S4096x1_S1x4096x512_02_1_n_n_1_1_11512 x idx (ix3 0 i d) = x (ix3 0 k d) := by
  unfold Host.gather
  refine congrArg x (funext fun a => Fin.ext ?_)
  match a with
  | ⟨0, _⟩ => exact congrArg Fin.val (Subsingleton.elim (α := Fin 1) _ _)
  | ⟨1, _⟩ =>
    have hs : gather_S1x64x512_S4096x1_S1x4096x512_02_1_n_n_1_1_11512.siIdx (ix3 0 i d) ⟨0, by decide⟩ = ix2 i 0 := by
      funext b
      match b with
      | ⟨0, _⟩ => rfl
      | ⟨1, _⟩ => exact Subsingleton.elim (α := Fin 1) _ _
    show min (idx (gather_S1x64x512_S4096x1_S1x4096x512_02_1_n_n_1_1_11512.siIdx (ix3 0 i d) ⟨0, by decide⟩)).toInt.toNat (64 - 1) + 0 + 0 = k.val
    rw [hs, h, StableHlo.Predicate.toInt_ofNat_small _ (by omega)]
    have := k.isLt
    omega
  | ⟨2, _⟩ =>
    show 0 + 0 + d.val = d.val
    omega

/-- Which updates of the label counts land at entry `k`: those of the rows whose label is `k`'s word. -/
theorem lands_count (idx : IVec S4096x1 32) (i : Fin 4096) (k l : Fin 64) (h : idx (ix2 i 0) = BitVec.ofNat 32 l.val) :
    scatter_S64_S4096x1_S4096_n_0_0_1.resultIdx? (ix1 i) idx = some (ix1 k) ↔ l = k := by
  rw [Routing.resultIdx?_eq_some]
  have hs : scatter_S64_S4096x1_S4096_n_0_0_1.siIdx (ix1 i) ⟨0, by decide⟩ = ix2 i 0 := by
    funext b
    match b with
    | ⟨0, _⟩ => rfl
    | ⟨1, _⟩ => exact Subsingleton.elim (α := Fin 1) _ _
  have h0 : scatter_S64_S4096x1_S4096_n_0_0_1.start (ix1 i) idx 0 = (l.val : Int) := by
    show (idx (scatter_S64_S4096x1_S4096_n_0_0_1.siIdx (ix1 i) ⟨0, by decide⟩)).toInt = _
    rw [hs, h, StableHlo.Predicate.toInt_ofNat_small _ (by omega)]
  have hw : scatter_S64_S4096x1_S4096_n_0_0_1.window (ix1 i) 0 = 0 := rfl
  constructor
  · intro g
    have := g 0
    rw [h0, hw] at this
    have e : ((ix1 k : S64.Idx) 0).val = k.val := rfl
    rw [e] at this
    exact Fin.ext (by omega)
  · rintro rfl a
    match a with
    | ⟨0, _⟩ =>
      show scatter_S64_S4096x1_S4096_n_0_0_1.start (ix1 i) idx 0 + (scatter_S64_S4096x1_S4096_n_0_0_1.window (ix1 i) 0 : Int) = (l.val : Int)
      rw [h0, hw]
      simp

/-- Which updates of the label sums land at row `k`, column `d'`: those of the rows whose label is `k`'s word, in the same column. -/
theorem lands_total (idx : IVec S4096x1 32) (i : Fin 4096) (d d' : Fin 512) (k l : Fin 64) (h : idx (ix2 i 0) = BitVec.ofNat 32 l.val) :
    scatter_S1x64x512_S4096x1_S1x4096x512_02_1_1_1.resultIdx? (ix3 0 i d) idx = some (ix3 0 k d') ↔ l = k ∧ d = d' := by
  rw [Routing.resultIdx?_eq_some]
  have hs : scatter_S1x64x512_S4096x1_S1x4096x512_02_1_1_1.siIdx (ix3 0 i d) ⟨0, by decide⟩ = ix2 i 0 := by
    funext b
    match b with
    | ⟨0, _⟩ => rfl
    | ⟨1, _⟩ => exact Subsingleton.elim (α := Fin 1) _ _
  have h1 : scatter_S1x64x512_S4096x1_S1x4096x512_02_1_1_1.start (ix3 0 i d) idx 1 = (l.val : Int) := by
    show (idx (scatter_S1x64x512_S4096x1_S1x4096x512_02_1_1_1.siIdx (ix3 0 i d) ⟨0, by decide⟩)).toInt = _
    rw [hs, h, StableHlo.Predicate.toInt_ofNat_small _ (by omega)]
  have w1 : scatter_S1x64x512_S4096x1_S1x4096x512_02_1_1_1.window (ix3 0 i d) 1 = 0 := rfl
  have h2 : scatter_S1x64x512_S4096x1_S1x4096x512_02_1_1_1.start (ix3 0 i d) idx 2 = 0 := rfl
  have w2 : scatter_S1x64x512_S4096x1_S1x4096x512_02_1_1_1.window (ix3 0 i d) 2 = d.val := rfl
  have h0 : scatter_S1x64x512_S4096x1_S1x4096x512_02_1_1_1.start (ix3 0 i d) idx 0 = 0 := rfl
  have w0 : scatter_S1x64x512_S4096x1_S1x4096x512_02_1_1_1.window (ix3 0 i d) 0 = 0 := rfl
  constructor
  · intro g
    have g1 := g 1
    have g2 := g 2
    rw [h1, w1] at g1
    rw [h2, w2] at g2
    have e1 : ((ix3 0 k d' : S1x64x512.Idx) 1).val = k.val := rfl
    have e2 : ((ix3 0 k d' : S1x64x512.Idx) 2).val = d'.val := rfl
    rw [e1] at g1
    rw [e2] at g2
    exact ⟨Fin.ext (by omega), Fin.ext (by omega)⟩
  · rintro ⟨rfl, rfl⟩ a
    match a with
    | ⟨0, _⟩ =>
      show scatter_S1x64x512_S4096x1_S1x4096x512_02_1_1_1.start (ix3 0 i d) idx 0
        + (scatter_S1x64x512_S4096x1_S1x4096x512_02_1_1_1.window (ix3 0 i d) 0 : Int) = ((0 : ℕ) : Int)
      rw [h0, w0]
      simp
    | ⟨1, _⟩ =>
      show scatter_S1x64x512_S4096x1_S1x4096x512_02_1_1_1.start (ix3 0 i d) idx 1
        + (scatter_S1x64x512_S4096x1_S1x4096x512_02_1_1_1.window (ix3 0 i d) 1 : Int) = (l.val : Int)
      rw [h1, w1]
      simp
    | ⟨2, _⟩ =>
      show scatter_S1x64x512_S4096x1_S1x4096x512_02_1_1_1.start (ix3 0 i d) idx 2
        + (scatter_S1x64x512_S4096x1_S1x4096x512_02_1_1_1.window (ix3 0 i d) 2 : Int) = (d.val : Int)
      rw [h2, w2]
      simp

/-- A vector index is its coordinate. -/
theorem vec_idx (y : S4096.Idx) : ∃ i : Fin 4096, y = ix1 i :=
  ⟨y 0, by funext a; match a with | ⟨0, _⟩ => rfl⟩

/-- An index of the table is its row and column. -/
theorem table_idx (y : S1x4096x512.Idx) : ∃ (i : Fin 4096) (d : Fin 512), y = ix3 0 i d :=
  ⟨y 1, y 2, by funext a; match a with
    | ⟨0, _⟩ => exact Subsingleton.elim (α := Fin 1) _ _
    | ⟨1, _⟩ => rfl
    | ⟨2, _⟩ => rfl⟩

variable (L : Fin 4096 → BitVec 32) (hL : Spec.InRange L)
include hL

/-- Words of labels are equal exactly when the labels are. -/
theorem word_inj (l k : Fin 64) : BitVec.ofNat 32 l.val = BitVec.ofNat 32 k.val ↔ l = k := by
  constructor
  · intro e
    have := congrArg BitVec.toNat e
    simp only [BitVec.toNat_ofNat] at this
    have h1 := k.isLt
    have h2 := l.isLt
    exact Fin.ext (by omega)
  · rintro rfl; rfl

/-- The segment sum of ones, from zeros, is the count of each label. -/
theorem scatter_count (z : FVec Ideal S64 .f32) (hz : ∀ k, z (ix1 k) = 0) (idx : IVec S4096x1 32) (hi : ∀ i, idx (ix2 i 0) = L i)
    (u : FVec Ideal S4096 .f32) (hu : ∀ i, u (ix1 i) = 1) (k : Fin 64) :
    Host.scatterAdd scatter_S64_S4096x1_S4096_n_0_0_1 z idx u (ix1 k) = Spec.count L (BitVec.ofNat 32 k.val) := by
  show z (ix1 k) + ∑ j ∈ Finset.univ.filter (fun j => scatter_S64_S4096x1_S4096_n_0_0_1.resultIdx? j idx = some (ix1 k)), u j = _
  have hl : ∀ i, (scatter_S64_S4096x1_S4096_n_0_0_1.resultIdx? (ix1 i) idx = some (ix1 k)) ↔ L i = BitVec.ofNat 32 k.val := fun i => by
    obtain ⟨l, hl⟩ := hL i
    rw [lands_count idx i k l ((hi i).trans hl), hl]
    exact (word_inj L hL l k).symm
  rw [hz, zero_add]
  unfold Spec.count Spec.hit
  rw [← Finset.sum_filter]
  refine Finset.sum_bij' (fun j _ => j 0) (fun i _ => ix1 i) ?_ ?_ ?_ ?_ ?_
  · intro j hj
    obtain ⟨i, rfl⟩ := vec_idx j
    exact Finset.mem_filter.mpr ⟨Finset.mem_univ _, (hl i).mp (Finset.mem_filter.mp hj).2⟩
  · intro i hi'
    exact Finset.mem_filter.mpr ⟨Finset.mem_univ _, (hl i).mpr (Finset.mem_filter.mp hi').2⟩
  · intro j _
    obtain ⟨i, rfl⟩ := vec_idx j
    rfl
  · intro i _
    rfl
  · intro j _
    obtain ⟨i, rfl⟩ := vec_idx j
    exact hu i

/-- The segment sum of the table's rows, from zeros, is the total of each label's rows. -/
theorem scatter_total (T : Fin 4096 → Fin 512 → EReal) (z : FVec Ideal S1x64x512 .f32) (hz : ∀ k d, z (ix3 0 k d) = 0)
    (idx : IVec S4096x1 32) (hi : ∀ i, idx (ix2 i 0) = L i)
    (u : FVec Ideal S1x4096x512 .f32) (hu : ∀ i d, u (ix3 0 i d) = T i d) (k : Fin 64) (d : Fin 512) :
    Host.scatterAdd scatter_S1x64x512_S4096x1_S1x4096x512_02_1_1_1 z idx u (ix3 0 k d) = Spec.total T L (BitVec.ofNat 32 k.val) d := by
  show z (ix3 0 k d) + ∑ j ∈ Finset.univ.filter (fun j => scatter_S1x64x512_S4096x1_S1x4096x512_02_1_1_1.resultIdx? j idx = some (ix3 0 k d)), u j = _
  have hl : ∀ i d', (scatter_S1x64x512_S4096x1_S1x4096x512_02_1_1_1.resultIdx? (ix3 0 i d') idx = some (ix3 0 k d))
      ↔ L i = BitVec.ofNat 32 k.val ∧ d' = d := fun i d' => by
    obtain ⟨l, hl⟩ := hL i
    rw [lands_total idx i d' d k l ((hi i).trans hl), hl]
    exact and_congr_left' (word_inj L hL l k).symm
  rw [hz, zero_add]
  unfold Spec.total Spec.hit
  simp only [ite_mul, one_mul, zero_mul]
  rw [← Finset.sum_filter]
  refine Finset.sum_bij' (fun j _ => j 1) (fun i _ => ix3 0 i d) ?_ ?_ ?_ ?_ ?_
  · intro j hj
    obtain ⟨i, d', rfl⟩ := table_idx j
    exact Finset.mem_filter.mpr ⟨Finset.mem_univ _, ((hl i d').mp (Finset.mem_filter.mp hj).2).1⟩
  · intro i hi'
    exact Finset.mem_filter.mpr ⟨Finset.mem_univ _, (hl i d).mpr ⟨(Finset.mem_filter.mp hi').2, rfl⟩⟩
  · intro j hj
    obtain ⟨i, d', rfl⟩ := table_idx j
    obtain ⟨-, rfl⟩ := (hl i d').mp (Finset.mem_filter.mp hj).2
    rfl
  · intro i _
    rfl
  · intro j hj
    obtain ⟨i, d', rfl⟩ := table_idx j
    obtain ⟨-, rfl⟩ := (hl i d').mp (Finset.mem_filter.mp hj).2
    exact hu i d'

end Cert.ReferenceIdeal.Ranks
-- ==== Proof.ReferenceScores.lean ====
/- The reference's scores, entry by entry. -/
module

public import proofs.«01_k».proof.Proof.Gen.ReferenceIdeal.Run
public import proofs.«01_k».proof.Proof.ReferenceIndexing

@[expose] public section

noncomputable section

namespace Cert.ReferenceIdeal.Ranks

open Idealize.ShloMosaic Cert.ReferenceIdeal Cert.ReferenceIdeal.Value Cert.ReferenceIdeal.Gen

variable (V : Valuation τ sig (Elt Ideal))

/-- The table of a valuation, by row and column. -/
def table (i : Fin 4096) (d : Fin 512) : EReal := V (Proc.devRef .tc main_arg0) (ix3 0 i d)

/-- The labels of a valuation, by row. -/
def labels (i : Fin 4096) : BitVec 32 := V (Proc.devRef .tc main_arg1) (ix1 i)

/-- A row's score, of a valuation's table and labels. -/
def scores : Fin 4096 → EReal := Spec.score (table V) (labels V)

/-- A fold of one-bit conjunctions from one, over bits that are all one, is one. -/
theorem fold_ones {ι : Type} (S : Finset ι) (f : ι → BitVec 1) (h : ∀ x, f x = 1#1) : S.fold IntOp.andi 1#1 f = 1#1 := by
  classical
  induction S using Finset.induction_on with
  | empty => rfl
  | insert a S ha ih =>
    rw [Finset.fold_insert ha, ih, h]
    rfl

/-- An index of a column is its row. -/
theorem col_idx (y : S4096x1.Idx) : ∃ i : Fin 4096, y = ix2 i 0 :=
  ⟨y 0, by funext a; match a with
    | ⟨0, _⟩ => rfl
    | ⟨1, _⟩ => exact Subsingleton.elim (α := Fin 1) _ _⟩

/-- An index of a row vector is its column. -/
theorem row_idx (y : S1x4096.Idx) : ∃ i : Fin 4096, y = ix2 0 i :=
  ⟨y 1, by funext a; match a with
    | ⟨0, _⟩ => exact Subsingleton.elim (α := Fin 1) _ _
    | ⟨1, _⟩ => rfl⟩

/-- A one-entry index that a row vector's indices are dropped to is the only one there is. -/
theorem drop_row (y : S1x4096.Idx) : reducesTo_S1x4096_S1_d1.drop y = ix1 0 := by
  funext a
  match a with
  | ⟨0, _⟩ => exact Subsingleton.elim (α := Fin 1) _ _

/-- The least of a row vector. -/
theorem least (f : S1x4096.Idx → EReal) :
    Finset.fold min (Ideal.ofBits .f32 0x7F800000#32) f {y | reducesTo_S1x4096_S1_d1.drop y = ix1 0} = Finset.univ.inf fun i => f (ix2 0 i) := by
  rw [Spec.ofBits_top]
  refine Spec.fold_min _ f (fun i => ix2 0 i) (fun i => Finset.mem_filter.mpr ⟨Finset.mem_univ _, drop_row _⟩) fun y _ => ?_
  obtain ⟨i, rfl⟩ := row_idx y
  exact ⟨i, rfl⟩

/-- The greatest of a row vector. -/
theorem greatest (f : S1x4096.Idx → EReal) :
    Finset.fold max (Ideal.ofBits .f32 0xFF800000#32) f {y | reducesTo_S1x4096_S1_d1.drop y = ix1 0} = Finset.univ.sup fun i => f (ix2 0 i) := by
  rw [Spec.ofBits_bot]
  refine Spec.fold_max _ f (fun i => ix2 0 i) (fun i => Finset.mem_filter.mpr ⟨Finset.mem_univ _, drop_row _⟩) fun y _ => ?_
  obtain ⟨i, rfl⟩ := row_idx y
  exact ⟨i, rfl⟩

/-- A label in range is kept as it is by the wrap of negative indices. -/
theorem wrapped (hL : Spec.InRange (labels V)) (i : Fin 4096) : res_main_call1_v5 V (ix2 i 0) = labels V i := by
  have h : res_main_call1_v5 V (ix2 i 0)
      = Scalar.select (IntOp.cmpi .slt (labels V i) 0#32) (IntOp.addi (labels V i) 64#32) (labels V i) := by
    unfold labels
    pointwise [res_main_call1_v5]
  obtain ⟨k, hk⟩ := hL i
  rw [h, hk]
  have : IntOp.cmpi .slt (BitVec.ofNat 32 k.val) 0#32 = 0#1 := by
    clear hk
    revert k
    decide
  rw [this]
  rfl

/-- A label in range passes both bounds. -/
theorem bounds (hL : Spec.InRange (labels V)) (y : S4096x1.Idx) :
    IntOp.andi (IntOp.cmpi .sge (res_main_call1_v5 V y) 0#32) (IntOp.cmpi .sle (res_main_call1_v5 V y) 63#32) = 1#1 := by
  obtain ⟨i, rfl⟩ := col_idx y
  rw [wrapped V hL]
  obtain ⟨k, hk⟩ := hL i
  rw [hk]
  clear hk
  revert k
  decide

/-- The row of centres: each label's total divided by its count, kept at one or more. -/
theorem center_apply (hL : Spec.InRange (labels V)) (k : Fin 64) (d : Fin 512) :
    Host.divf (F := Ideal) (Host.scatterAdd scatter_S1x64x512_S4096x1_S1x4096x512_02_1_1_1 (broadcastInDim S1x64x512 ![1, 2] bcast_S64x512_S1x64x512_1_2 (broadcastInDim S64x512 ![] bcast_S_S64x512 (constant S_ .f32 0x00000000#32))) (broadcastInDim S4096x1 ![0] bcast_S4096_S4096x1_0 (V (Proc.devRef .tc main_arg1))) (V (Proc.devRef .tc main_arg0))) (broadcastInDim S1x64x512 ![0, 1, 2] bcast_S1x64x1_S1x64x512_0_1_2 (broadcastInDim S1x64x1 ![1] bcast_S64_S1x64x1_1 (maximumf (broadcastInDim S64 ![] bcast_S_S64 (id (constant S_ .f32 0x3F800000#32))) (Host.scatterAdd scatter_S64_S4096x1_S4096_n_0_0_1 (broadcastInDim S64 ![] bcast_S_S64 (constant S_ .f32 0x00000000#32)) (broadcastInDim S4096x1 ![0] bcast_S4096_S4096x1_0 (V (Proc.devRef .tc main_arg1))) (broadcastInDim S4096 ![] bcast_S_S4096 (constant S_ .f32 0x3F800000#32)))))) (ix3 0 k d)
      = Spec.center (table V) (labels V) (BitVec.ofNat 32 k.val) d := by
  have hi : ∀ i : Fin 4096, broadcastInDim (α := BitVec 32) S4096x1 ![0] bcast_S4096_S4096x1_0 (V (Proc.devRef .tc main_arg1)) (ix2 i 0) = labels V i := fun i => by
    unfold labels
    pointwise []
  have hT := scatter_total (labels V) hL (table V) (broadcastInDim S1x64x512 ![1, 2] bcast_S64x512_S1x64x512_1_2 (broadcastInDim S64x512 ![] bcast_S_S64x512 (constant S_ .f32 0x00000000#32))) (fun k d => by
      pointwise []) (broadcastInDim S4096x1 ![0] bcast_S4096_S4096x1_0 (V (Proc.devRef .tc main_arg1))) hi (V (Proc.devRef .tc main_arg0)) (fun _ _ => rfl) k d
  have hC := scatter_count (labels V) hL (broadcastInDim S64 ![] bcast_S_S64 (constant S_ .f32 0x00000000#32)) (fun k => by
      pointwise []) (broadcastInDim S4096x1 ![0] bcast_S4096_S4096x1_0 (V (Proc.devRef .tc main_arg1))) hi (broadcastInDim S4096 ![] bcast_S_S4096 (constant (F := Ideal) S_ .f32 0x3F800000#32)) (fun i => by
      pointwise []) k
  unfold Spec.center
  rw [← hT, ← hC]
  generalize Host.scatterAdd (F := Ideal) scatter_S1x64x512_S4096x1_S1x4096x512_02_1_1_1 _ _ _ = A
  generalize Host.scatterAdd (F := Ideal) scatter_S64_S4096x1_S4096_n_0_0_1 _ _ _ = B
  pointwise []
  have h1 : id (constant (F := Ideal) S_ .f32 0x3F800000#32) ix0 = (1 : EReal) := by
    exact Ideal.ofBits_one_f32
  rw [h1]

/-- The table less the centres, by row and column. -/
abbrev moved : S1x4096x512.Idx → EReal := res_main_v13 V
/-- The mean squared distances, by row. -/
abbrev dists : S1x4096.Idx → EReal := res_main_v17 V
/-- The least distance. -/
abbrev leastDist : S1x1.Idx → EReal := res_main_v19 V
/-- The scores, by row. -/
abbrev scoreRow : S1x4096.Idx → EReal := res_main_v31 V
/-- The least score. -/
abbrev leastScore : S1x1.Idx → EReal := res_main_v33 V
/-- The scores spread over the unit interval, by row. -/
abbrev spreadRow : S1x4096.Idx → EReal := res_main_v42 V

/-- A row less its centre. -/
theorem moved_apply (hL : Spec.InRange (labels V)) (i : Fin 4096) (d : Fin 512) :
    moved V (ix3 0 i d) = table V i d - Spec.center (table V) (labels V) (labels V i) d := by
  obtain ⟨k, hk⟩ := hL i
  rw [hk, ← center_apply V hL k d]
  refine Eq.trans ?_ (congrArg (fun z => table V i d - z) (gather_apply _ (res_main_call1_v5 V) i d k ((wrapped V hL i).trans hk)))
  unfold moved table
  pointwise [res_main_v13]
  have hf : ∀ S : Finset S4096x1.Idx, S.fold IntOp.andi 1#1 (fun x => IntOp.andi (IntOp.cmpi .sge (res_main_call1_v5 V x) 0#32) (IntOp.cmpi .sle (res_main_call1_v5 V x) 63#32)) = 1#1 :=
    fun S => fold_ones S _ (bounds V hL)
  rw [hf]
  rfl

/-- The mean squared distance of each row from its centre. -/
theorem dists_apply (hL : Spec.InRange (labels V)) (i : Fin 4096) : dists V (ix2 0 i) = Spec.dist (table V) (labels V) i := by
  have h : dists V (ix2 0 i) = Ideal.div (∑ x : Fin 512, moved V (ix3 0 i x) * moved V (ix3 0 i x)) (Ideal.ofBits .f32 0x44000000#32) := by
    pointwise [res_main_v17]
  rw [h, Spec.ofBits_512]
  unfold Spec.dist
  simp only [moved_apply V hL]

/-- The least distance. -/
theorem leastDist_apply (hL : Spec.InRange (labels V)) : leastDist V (ix2 0 0) = Finset.univ.inf (Spec.dist (table V) (labels V)) := by
  have h : ∀ a : EReal, Finset.fold min (Ideal.ofBits .f32 0x7F800000#32) (dists V) {y | reducesTo_S1x4096_S1_d1.drop y = ix1 0} = a
      → leastDist V (ix2 0 0) = a := fun a ha => by
    pointwise [res_main_v19]
    exact ha
  refine h _ ((least _).trans ?_)
  simp only [dists_apply V hL]

/-- The scores. -/
theorem scoreRow_apply (hL : Spec.InRange (labels V)) (i : Fin 4096) : scoreRow V (ix2 0 i) = scores V i := by
  have h : ∀ a : EReal, Finset.fold max (Ideal.ofBits .f32 0xFF800000#32) (dists V) {y | reducesTo_S1x4096_S1_d1.drop y = ix1 0} = a
      → scoreRow V (ix2 0 i) = Ideal.div (dists V (ix2 0 i) - leastDist V (ix2 0 0)) (a - leastDist V (ix2 0 0))
        + FloatOps.sitofp (F := Ideal) .f32 (labels V i) := fun a ha => by
    unfold labels
    pointwise [res_main_v31]
    rw [← ha]
    rfl
  rw [h _ (greatest _), leastDist_apply V hL]
  simp only [dists_apply V hL]
  rfl

/-- The least score. -/
theorem leastScore_apply (hL : Spec.InRange (labels V)) : leastScore V (ix2 0 0) = Finset.univ.inf (scores V) := by
  have h : ∀ a : EReal, Finset.fold min (Ideal.ofBits .f32 0x7F800000#32) (scoreRow V) {y | reducesTo_S1x4096_S1_d1.drop y = ix1 0} = a
      → leastScore V (ix2 0 0) = a := fun a ha => by
    pointwise [res_main_v33]
    exact ha
  refine h _ ((least _).trans ?_)
  simp only [scoreRow_apply V hL]

/-- The scores spread over the unit interval. -/
theorem spreadRow_apply (hL : Spec.InRange (labels V)) (i : Fin 4096) : spreadRow V (ix2 0 i) = Spec.spread (scores V) i := by
  have h : ∀ a : EReal, Finset.fold max (Ideal.ofBits .f32 0xFF800000#32) (scoreRow V) {y | reducesTo_S1x4096_S1_d1.drop y = ix1 0} = a
      → spreadRow V (ix2 0 i) = Ideal.div (scoreRow V (ix2 0 i) - leastScore V (ix2 0 0)) (a - leastScore V (ix2 0 0)) := fun a ha => by
    pointwise [res_main_v42]
    rw [← ha]
    rfl
  rw [h _ (greatest _), leastScore_apply V hL]
  simp only [scoreRow_apply V hL]
  rfl

end Cert.ReferenceIdeal.Ranks
-- ==== Proof.ReferenceRanks.lean ====
/- The reference's three results, entry by entry. -/
module

public import proofs.«01_k».proof.Proof.ReferenceScores

@[expose] public section

noncomputable section

namespace Cert.ReferenceIdeal.Ranks

open Idealize.ShloMosaic Cert.ReferenceIdeal Cert.ReferenceIdeal.Value Cert.ReferenceIdeal.Gen Cert.Places

variable (V : Valuation τ sig (Elt Ideal))

/-- The sort's comparator of scores is their order. -/
theorem before_scores (a b : EReal) (v w : BitVec 32) :
    (comparator_f32_i32_d1 (F := Ideal) (a, v) (b, w) == 1#1) = decide (a < b) := by
  have hz : Ideal.ofBits .f32 0x00000000#32 = 0 := by simp [Ideal.ofBits, Ideal.ieee]
  have he : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [hz]
    have h1 : Ideal.cmp .une x x = 0#1 := by simp [Ideal.cmp]
    rw [h1]
    by_cases h : x = 0
    · subst h
      simp [Scalar.select]
    · have h2 : Ideal.cmp .oeq x 0 = 0#1 := by simp [Ideal.cmp, h]
      rw [h2]
      simp [Scalar.select]
  show (Ideal.cmpTotal .lt
    (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) == 1#1) = _
  rw [he, he]
  by_cases h : a < b <;> simp [Ideal.cmpTotal, CmpDirection.ordered, Ideal.cmp, h]

/-- The second operand of a sort along a row vector, at a place: the operand at the position sorted to that place. -/
theorem sort_row {α : Type} (cmp : α × BitVec 32 → α × BitVec 32 → BitVec 1) (x : S1x4096.Idx → α) (y : S1x4096.Idx → BitVec 32)
    (i : Fin 4096) :
    (Host.sort2 S1x4096 1 cmp x y).2 (ix2 0 i)
      = y (ix2 0 (sortedFrom (fun k k' => cmp (x (ix2 0 k), y (ix2 0 k)) (x (ix2 0 k'), y (ix2 0 k')) == 1#1) i)) := by
  have ha : ∀ k : Fin 4096, (ix2 0 i : S1x4096.Idx).along (1 : Fin 2) k = ix2 0 k := by
    intro k
    funext a
    match a with
    | ⟨0, _⟩ => rfl
    | ⟨1, _⟩ => rfl
  unfold Host.sort2
  rw [dif_pos (by decide)]
  show (fun g : Fin 4096 → S1x4096.Idx => y (g (sortedFrom (fun k k' => cmp (x (g k), y (g k)) (x (g k'), y (g k')) == 1#1) i)))
    (fun k => (ix2 0 i : S1x4096.Idx).along (1 : Fin 2) k) = _
  rw [show (fun k : Fin 4096 => (ix2 0 i : S1x4096.Idx).along (1 : Fin 2) k) = fun k => ix2 0 k from funext ha]

/-- The positions in order of score. -/
abbrev order : S1x4096.Idx → BitVec 32 := res_main_v60 V
/-- Each row's place in that order. -/
abbrev placeRow : S1x4096.Idx → BitVec 32 := res_main_v61 V

/-- The comparison of positions' scores. -/
def lower (a b : Fin 4096) : Bool := decide (scores V a < scores V b)
/-- The comparison of sorted positions. -/
def earlier (a b : Fin 4096) : Bool := decide (sortedFrom (lower V) a < sortedFrom (lower V) b)

/-- The position at each place of the scores' order. -/
theorem order_apply (hL : Spec.InRange (labels V)) (i : Fin 4096) :
    order V (ix2 0 i) = BitVec.ofNat 32 (sortedFrom (lower V) i).val := by
  unfold order
  rw [res_main_v60]
  refine (sort_row _ _ _ i).trans ?_
  have : (fun k k' : Fin 4096 => comparator_f32_i32_d1 (F := Ideal) (scoreRow V (ix2 0 k), res_main_call2_v0 V (ix2 0 k))
      (scoreRow V (ix2 0 k'), res_main_call2_v0 V (ix2 0 k')) == 1#1) = lower V := by
    funext k k'
    rw [before_scores, scoreRow_apply V hL, scoreRow_apply V hL]
    rfl
  exact (congrArg (fun R => res_main_call2_v0 V (ix2 0 (sortedFrom R i))) this).trans rfl

/-- Each row's place. -/
theorem placeRow_apply (hL : Spec.InRange (labels V)) (i : Fin 4096) :
    placeRow V (ix2 0 i) = BitVec.ofNat 32 (place (scores V) i) := by
  unfold placeRow
  rw [res_main_v61]
  refine (sort_row _ _ _ i).trans ?_
  have : (fun k k' : Fin 4096 => comparator_i32_i32_d1 (order V (ix2 0 k), res_main_call3_v0 V (ix2 0 k))
      (order V (ix2 0 k'), res_main_call3_v0 V (ix2 0 k')) == 1#1) = earlier V := by
    funext k k'
    show (IntOp.cmpi .slt (order V (ix2 0 k)) (order V (ix2 0 k')) == 1#1) = _
    rw [order_apply V hL, order_apply V hL]
    have h := Spec.slt_ofNat (a := (sortedFrom (lower V) k).val) (b := (sortedFrom (lower V) k').val) (by omega) (by omega)
    unfold IntOp.cmpi
    simp only [h]
    unfold earlier
    by_cases hlt : sortedFrom (lower V) k < sortedFrom (lower V) k'
    · have h' : (sortedFrom (lower V) k).val < (sortedFrom (lower V) k').val := hlt
      simp [hlt]
    · have h' : ¬ (sortedFrom (lower V) k).val < (sortedFrom (lower V) k').val := hlt
      simp [hlt]
  refine (congrArg (fun R => res_main_call3_v0 V (ix2 0 (sortedFrom R i))) this).trans ?_
  rw [← sorted_twice (scores V) (lower V) (earlier V) (fun _ _ => rfl) (fun _ _ => rfl) i]
  rfl

/-- A row vector regrouped into a column, at its entries. -/
theorem cast_row (x : S1x4096.Idx → EReal) (i : Fin 4096) : shapeCast S1x4096x1 x shapeCasts_S1x4096_S1x4096x1 (ix3 0 i 0) = x (ix2 0 i) := by
  pointwise []

/-- A row vector of words regrouped into a column, at its entries. -/
theorem cast_row_words (x : IVec S1x4096 32) (i : Fin 4096) : shapeCast S1x4096x1 x shapeCasts_S1x4096_S1x4096x1 (ix3 0 i 0) = x (ix2 0 i) := by
  pointwise []

/-- An index of a result is its row. -/
theorem result_idx (y : S1x4096x1.Idx) : ∃ i : Fin 4096, y = ix3 0 i 0 :=
  ⟨y 1, by funext a; match a with
    | ⟨0, _⟩ => exact Subsingleton.elim (α := Fin 1) _ _
    | ⟨1, _⟩ => rfl
    | ⟨2, _⟩ => exact Subsingleton.elim (α := Fin 1) _ _⟩

/-- The reference's soft ranks, as its run leaves them. -/
def softTerm : S1x4096x1.Idx → EReal :=
  shapeCast _ (addf (F := Ideal) (broadcastInDim S1x4096 ![] bcast_S_S1x4096 (constant S_ .f32 0x3F000000#32)) (Host.reduceAdd (Host.divf (broadcastInDim S1x4096x4096 ![] bcast_S_S1x4096x4096 (constant S_ .f32 0x3F800000#32)) (addf (broadcastInDim S1x4096x4096 ![] bcast_S_S1x4096x4096 (constant S_ .f32 0x3F800000#32)) (Host.exp (Host.negf (Host.divf (subf (broadcastInDim S1x4096x4096 ![0, 1, 2] bcast_S1x4096x1_S1x4096x4096_0_1_2 (broadcastInDim S1x4096x1 ![0, 1] bcast_S1x4096_S1x4096x1_0_1 (res_main_v42 V))) (broadcastInDim S1x4096x4096 ![0, 1, 2] bcast_S1x1x4096_S1x4096x4096_0_1_2 (broadcastInDim S1x1x4096 ![0, 2] bcast_S1x4096_S1x1x4096_0_2 (res_main_v42 V)))) (broadcastInDim S1x4096x4096 ![] bcast_S_S1x4096x4096 (Host.divf (constant S_ .f32 0x3F800000#32) (constant S_ .f32 0x41200000#32)))))))) (constant S_ .f32 0x00000000#32) reducesTo_S1x4096x4096_S1x4096_d2 h_S_)) shapeCasts_S1x4096_S1x4096x1

/-- The reference's rank buckets, as its run leaves them. -/
def bucketTerm : S1x4096x1.Idx → BitVec 32 :=
  shapeCast _ (addi (select (andi (cmpi .ne (signi (res_main_v61 V)) (broadcastInDim S1x4096 ![] bcast_S_S1x4096 (signi (res_main_call4_v0 V)))) (cmpi .ne (Host.remsi (res_main_v61 V) (broadcastInDim S1x4096 ![] bcast_S_S1x4096 (res_main_call4_v0 V))) (broadcastInDim S1x4096 ![] bcast_S_S1x4096 (constantI S_ 32 0#32)))) (subi (res_main_call4_v2 V) (broadcastInDim S1x4096 ![] bcast_S_S1x4096 (constantI S_ 32 1#32))) (res_main_call4_v2 V)) (broadcastInDim S1x4096 ![] bcast_S_S1x4096 (constantI S_ 32 1#32))) shapeCasts_S1x4096_S1x4096x1

/-- The reference's scores, as its run leaves them. -/
def scoreTerm : S1x4096x1.Idx → EReal := shapeCast _ (res_main_v31 V) shapeCasts_S1x4096_S1x4096x1

/-- The soft rank of each row. -/
theorem softTerm_apply (hL : Spec.InRange (labels V)) (i : Fin 4096) :
    softTerm V (ix3 0 i 0) = Spec.soft (Spec.spread (scores V)) i := by
  unfold softTerm
  refine (cast_row _ i).trans ?_
  have h : ∀ s : S1x4096.Idx → EReal, addf (F := Ideal) (broadcastInDim S1x4096 ![] bcast_S_S1x4096 (constant S_ .f32 0x3F000000#32)) (Host.reduceAdd (Host.divf (broadcastInDim S1x4096x4096 ![] bcast_S_S1x4096x4096 (constant S_ .f32 0x3F800000#32)) (addf (broadcastInDim S1x4096x4096 ![] bcast_S_S1x4096x4096 (constant S_ .f32 0x3F800000#32)) (Host.exp (Host.negf (Host.divf (subf (broadcastInDim S1x4096x4096 ![0, 1, 2] bcast_S1x4096x1_S1x4096x4096_0_1_2 (broadcastInDim S1x4096x1 ![0, 1] bcast_S1x4096_S1x4096x1_0_1 s)) (broadcastInDim S1x4096x4096 ![0, 1, 2] bcast_S1x1x4096_S1x4096x4096_0_1_2 (broadcastInDim S1x1x4096 ![0, 2] bcast_S1x4096_S1x1x4096_0_2 s))) (broadcastInDim S1x4096x4096 ![] bcast_S_S1x4096x4096 (Host.divf (constant S_ .f32 0x3F800000#32) (constant S_ .f32 0x41200000#32)))))))) (constant S_ .f32 0x00000000#32) reducesTo_S1x4096x4096_S1x4096_d2 h_S_) (ix2 0 i)
      = Ideal.ofBits .f32 0x3F000000#32 + ∑ j : Fin 4096, Ideal.div 1 (1 + Ideal.exp (-(Ideal.div (s (ix2 0 i) - s (ix2 0 j)) (Ideal.div 1 ((10 : ℝ) : EReal))))) := fun s => by
    rw [← Spec.ofBits_ten]
    pointwise []
  refine (h (spreadRow V)).trans ?_
  unfold Spec.soft
  simp only [Spec.div_tenth, spreadRow_apply V hL]

/-- The sign of a word. -/
def sign (w : BitVec 32) : BitVec 32 := if w = 0 then 0 else if w.msb then -1 else 1

/-- A word from 1 to 4095 has the sign of 64. -/
theorem sign_pos (n : ℕ) (h0 : 0 < n) (hn : n < 4096) : sign (BitVec.ofNat 32 n) = sign 64#32 := by
  have h1 : BitVec.ofNat 32 n ≠ 0 := fun e => by
    have := congrArg BitVec.toNat e
    simp only [BitVec.toNat_ofNat] at this
    have h2 : n % 2 ^ 32 = n := Nat.mod_eq_of_lt (by omega)
    rw [h2] at this
    exact absurd this (by simp; omega)
  have h2 : (BitVec.ofNat 32 n).msb = false := by
    rw [BitVec.msb_eq_false_iff_two_mul_lt, BitVec.toNat_ofNat, Nat.mod_eq_of_lt (by omega)]
    omega
  unfold sign
  rw [if_neg h1, h2]
  decide

/-- The rank bucket of each row. -/
theorem bucketTerm_apply (hL : Spec.InRange (labels V)) (i : Fin 4096) :
    bucketTerm V (ix3 0 i 0) = Spec.bucket (scores V) i := by
  unfold bucketTerm res_main_call4_v2 res_main_call4_v0
  refine (cast_row_words _ i).trans ?_
  have h : ∀ p : IVec S1x4096 32, addi (select (andi (cmpi .ne (signi p) (broadcastInDim S1x4096 ![] bcast_S_S1x4096 (signi (id (constantI S_ 32 64#32))))) (cmpi .ne (Host.remsi p (broadcastInDim S1x4096 ![] bcast_S_S1x4096 (id (constantI S_ 32 64#32)))) (broadcastInDim S1x4096 ![] bcast_S_S1x4096 (constantI S_ 32 0#32)))) (subi (Host.divsi p (broadcastInDim S1x4096 ![] bcast_S_S1x4096 (id (constantI S_ 32 64#32)))) (broadcastInDim S1x4096 ![] bcast_S_S1x4096 (constantI S_ 32 1#32))) (Host.divsi p (broadcastInDim S1x4096 ![] bcast_S_S1x4096 (id (constantI S_ 32 64#32))))) (broadcastInDim S1x4096 ![] bcast_S_S1x4096 (constantI S_ 32 1#32)) (ix2 0 i)
      = IntOp.addi (Scalar.select
        (IntOp.andi (IntOp.cmpi .ne (sign (p (ix2 0 i))) (sign 64#32)) (IntOp.cmpi .ne (IntOp.remsi .host (p (ix2 0 i)) 64#32) 0#32))
        (IntOp.subi (IntOp.divsi .host (p (ix2 0 i)) 64#32) 1#32) (IntOp.divsi .host (p (ix2 0 i)) 64#32)) 1#32 := fun p => by
    pointwise []
    rfl
  refine (h (placeRow V)).trans ?_
  rw [placeRow_apply V hL]
  refine Spec.floor_div .host _ (place_lt _ _) _ _ fun hp => ?_
  exact sign_pos _ hp (place_lt _ _)

/-- The score of each row. -/
theorem scoreTerm_apply (hL : Spec.InRange (labels V)) (i : Fin 4096) : scoreTerm V (ix3 0 i 0) = scores V i :=
  (cast_row _ i).trans (scoreRow_apply V hL i)

end Cert.ReferenceIdeal.Ranks
-- ==== Proof.Agree.lean ====
/- For labels in range, the kernel and the reference leave the same three results. -/
module

public import proofs.«01_k».proof.Proof.KernelValues
public import proofs.«01_k».proof.Proof.ReferenceRanks
public import proofs.«01_k».proof.Pre_labels_in_range

@[expose] public section

noncomputable section

namespace Cert.Agree

open Idealize.ShloMosaic

/-- The one shape relation the range predicate states. -/
instance pre_facts : Cert.Pre_labels_in_range.Facts where
  bcast_S_S4096 := by decide

/-- A word from 0 to 63 by signed comparison is the word of such a number. -/
theorem word_in_range (w : BitVec 32) (h : IntOp.andi (IntOp.cmpi .sge w 0#32) (IntOp.cmpi .slt w 64#32) = 1#1) :
    ∃ k : Fin 64, w = BitVec.ofNat 32 k.val := by
  have h0 : (0#32 : BitVec 32).sle w = true ∧ w.slt 64#32 = true := by
    have e : BitVec.ofBool ((0#32 : BitVec 32).sle w) &&& BitVec.ofBool (w.slt 64#32) = 1#1 := h
    cases h1 : (0#32 : BitVec 32).sle w <;> cases h2 : w.slt 64#32 <;> simp_all
  have h1 : 0 ≤ w.toInt := by
    have := h0.1
    simpa [BitVec.sle] using this
  have h2 : w.toInt < 64 := by
    have := h0.2
    simpa [BitVec.slt] using this
  have h3 : w.toNat < 64 := by
    rw [BitVec.toInt_eq_toNat_cond] at h1 h2
    split at h1 <;> omega
  exact ⟨⟨w.toNat, h3⟩, by simp⟩

/-- The precondition puts every label of every device in range. -/
theorem in_range (x : FVec Ideal Cert.Pre_labels_in_range.S1x4096x512 .f32) (l : IVec Cert.Pre_labels_in_range.S4096 32)
    (h : Cert.Pre_labels_in_range.fn (F := Ideal) x l = fun _ => 1#1) :
    Cert.Spec.InRange fun i => l (ix1 i) := fun i => word_in_range _ (congrFun h (ix1 i))

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))
  (hT : Cert.ReferenceIdeal.Ranks.table V = Cert.KernelIdeal.Ranks.table m c)
  (hl : Cert.ReferenceIdeal.Ranks.labels V = Cert.KernelIdeal.Ranks.labels m c)
  (hL : Cert.Spec.InRange (Cert.KernelIdeal.Ranks.labels m c))
include hT hl hL

/-- The two programs' scores are of the same table and labels. -/
theorem scores_eq : Cert.ReferenceIdeal.Ranks.scores V = Cert.KernelIdeal.Ranks.scores m c := by
  unfold Cert.ReferenceIdeal.Ranks.scores Cert.KernelIdeal.Ranks.scores
  rw [hT, hl]

/-- The soft ranks agree. -/
theorem soft_eq : Cert.ReferenceIdeal.Ranks.softTerm V
    = shapeCast Cert.KernelIdeal.S1x4096x1 (Cert.KernelIdeal.Ranks.softCol m ρ c) Cert.KernelIdeal.Gen.shapeCasts_S4096x1_S1x4096x1 := by
  funext y
  obtain ⟨i, rfl⟩ := Cert.ReferenceIdeal.Ranks.result_idx y
  rw [Cert.ReferenceIdeal.Ranks.softTerm_apply V (hl ▸ hL), scores_eq m c V hT hl hL]
  refine Eq.symm ((Cert.KernelIdeal.Ranks.cast_col_lead _ i).trans ?_)
  rw [Cert.KernelIdeal.Ranks.softCol_eq m ρ c hL]
  rfl

/-- The rank buckets agree. -/
theorem bucket_eq : Cert.ReferenceIdeal.Ranks.bucketTerm V
    = shapeCast Cert.KernelIdeal.S1x4096x1 (Cert.KernelIdeal.Ranks.bucketCol m ρ c) Cert.KernelIdeal.Gen.shapeCasts_S4096x1_S1x4096x1 := by
  funext y
  obtain ⟨i, rfl⟩ := Cert.ReferenceIdeal.Ranks.result_idx y
  rw [Cert.ReferenceIdeal.Ranks.bucketTerm_apply V (hl ▸ hL), scores_eq m c V hT hl hL]
  refine Eq.symm ((Cert.KernelIdeal.Ranks.cast_col_lead_words _ i).trans ?_)
  rw [Cert.KernelIdeal.Ranks.bucketCol_eq m ρ c hL]
  rfl

/-- The scores agree. -/
theorem score_eq : Cert.ReferenceIdeal.Ranks.scoreTerm V
    = shapeCast Cert.KernelIdeal.S1x4096x1 (Cert.KernelIdeal.Ranks.scoreCol m ρ c) Cert.KernelIdeal.Gen.shapeCasts_S4096x1_S1x4096x1 := by
  funext y
  obtain ⟨i, rfl⟩ := Cert.ReferenceIdeal.Ranks.result_idx y
  rw [Cert.ReferenceIdeal.Ranks.scoreTerm_apply V (hl ▸ hL), scores_eq m c V hT hl hL]
  exact Eq.symm ((Cert.KernelIdeal.Ranks.cast_col_lead _ i).trans (Cert.KernelIdeal.Ranks.scoreCol_apply m ρ c hL i))

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel (hKernel := Cert.Kernel.Gen.facts) := fun m ρ _ => Cert.Kernel.Gen.frame m ρ

/-- The idealized kernel's frame. -/
theorem frame_ideal : Cert.quiescent_KernelIdeal (hKernelIdeal := Cert.KernelIdeal.Gen.facts) := fun m ρ _ => Cert.KernelIdeal.Gen.frame m ρ

/-- The reference's run keeps its arguments, and it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

/-- All three results agree when the labels are in range: each value is the regrouped column the kernel's regions leave. -/
theorem values : Cert.algebraic_KernelIdeal_ReferenceIdeal_pre_labels_in_range (hKernelIdeal := Cert.KernelIdeal.Gen.facts)
    (hReferenceIdeal := Cert.ReferenceIdeal.Gen.facts) (hPre_labels_in_range := Cert.Agree.pre_facts) := by
  intro m g m' g' hpre hargs
  have hL : ∀ c, Cert.Spec.InRange (Cert.KernelIdeal.Ranks.labels m c) := fun c => Cert.Agree.in_range _ _ (hpre c)
  have hT : ∀ c, Cert.ReferenceIdeal.Ranks.table (StableHlo.launchContents m' c) = Cert.KernelIdeal.Ranks.table m c := fun c => by
    funext i d
    exact congrFun (hargs c).1 (ix3 0 i d)
  have hl : ∀ c, Cert.ReferenceIdeal.Ranks.labels (StableHlo.launchContents m' c) = Cert.KernelIdeal.Ranks.labels m c := fun c => by
    funext i
    exact congrFun (hargs c).2 (ix1 i)
  refine ⟨fun c => shapeCast Cert.KernelIdeal.S1x4096x1 (Cert.KernelIdeal.Ranks.softCol m g c) Cert.KernelIdeal.Gen.shapeCasts_S4096x1_S1x4096x1,
    fun c => shapeCast Cert.KernelIdeal.S1x4096x1 (Cert.KernelIdeal.Ranks.bucketCol m g c) Cert.KernelIdeal.Gen.shapeCasts_S4096x1_S1x4096x1,
    fun c => shapeCast Cert.KernelIdeal.S1x4096x1 (Cert.KernelIdeal.Ranks.scoreCol m g c) Cert.KernelIdeal.Gen.shapeCasts_S4096x1_S1x4096x1, ?_, ?_⟩
  · exact (θ_run Cert.KernelIdeal.defs _ _).mono
      (fun r h c => ⟨(h c).1.trans (Cert.KernelIdeal.Ranks.W5_soft m g c), (h c).2.1.trans (Cert.KernelIdeal.Ranks.W5_bucket m g c),
        (h c).2.2.1.trans (Cert.KernelIdeal.Ranks.W5_scores m g c), (h c).2.2.2.1, (h c).2.2.2.2⟩)
      (Cert.KernelIdeal.Ranks.run m g)
  · exact (θ_run Cert.ReferenceIdeal.defs _ _).mono
      (fun r h c => ⟨(h c).1.trans (Cert.Agree.soft_eq m g c (StableHlo.launchContents m' c) (hT c) (hl c) (hL c)),
        (h c).2.1.trans (Cert.Agree.bucket_eq m g c (StableHlo.launchContents m' c) (hT c) (hl c) (hL c)),
        (h c).2.2.1.trans (Cert.Agree.score_eq m g c (StableHlo.launchContents m' c) (hT c) (hl c) (hL c)), (h c).2.2.2.1, (h c).2.2.2.2⟩)
      (Cert.ReferenceIdeal.Value.run (F := Ideal) m' g')

/-- Everything claimed. -/
theorem claim : Cert.Claim :=
  ⟨Cert.Kernel.Gen.facts, Cert.KernelIdeal.Gen.facts, Cert.ReferenceIdeal.Gen.facts, Cert.Agree.pre_facts,
    frame_kernel, frame_ideal, fun m ρ _ => Cert.KernelIdeal.Gen.frame m ρ, fun m ρ _ => reference_frame m ρ,
    fun m ρ _ => reference_frame m ρ, trivial, values⟩

end Cert.Proof

end
